-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![512, 512]⟩ ⟨2, ![1024, 512]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x512 : Shape := ⟨3, ![1, 1024, 512]⟩
abbrev S512 : Shape := ⟨1, ![512]⟩
abbrev S1x512 : Shape := ⟨2, ![1, 512]⟩
abbrev S512x512 : Shape := ⟨2, ![512, 512]⟩
abbrev S4x128x512 : Shape := ⟨3, ![4, 128, 512]⟩
abbrev S6 : Shape := ⟨1, ![6]⟩
abbrev S4 : Shape := ⟨1, ![4]⟩
abbrev S1 : Shape := ⟨1, ![1]⟩
abbrev S_ : Shape := ⟨0, ![]⟩
abbrev S1x128x512 : Shape := ⟨3, ![1, 128, 512]⟩
abbrev S128x512 : Shape := ⟨2, ![128, 512]⟩
abbrev S1x512x512 : Shape := ⟨3, ![1, 512, 512]⟩
abbrev S128 : Shape := ⟨1, ![128]⟩
abbrev S128x1 : Shape := ⟨2, ![128, 1]⟩

abbrev nBuf : Space → Nat
  | .hbm => 4
  | .vmem => 6
  | .smem => 0
  | _ => 0

abbrev bufTy : (tb : Table) → Fin (tcTables nBuf tb) → BufTy
  | .hbm, ⟨0, _⟩ => ⟨S1x1024x512, .f32⟩
  | .hbm, ⟨1, _⟩ => ⟨S512, .f32⟩
  | .hbm, ⟨2, _⟩ => ⟨S1x512, .f32⟩
  | .hbm, ⟨3, _⟩ => ⟨S512x512, .bf16⟩
  | .local _ .vmem, ⟨0, _⟩ => ⟨S512x512, .bf16⟩
  | .local _ .vmem, ⟨1, _⟩ => ⟨S4x128x512, .f32⟩
  | .local _ .vmem, ⟨2, _⟩ => ⟨S512x512, .f32⟩
  | .local _ .vmem, ⟨3, _⟩ => ⟨S4x128x512, .bf16⟩
  | .local _ .vmem, ⟨4, _⟩ => ⟨S4x128x512, .bf16⟩
  | .local _ .vmem, ⟨5, _⟩ => ⟨S1x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0_i32_5 : BitVec 32 := 0#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c512_i32 : BitVec 32 := 512#32
  let v8 : BitVec 32 := Scalar.muli v7 c512_i32
  let v10 : BitVec 32 := Scalar.addi v8 c0_i32
  let c0_i32_10 : BitVec 32 := 0#32
  ![0, v10.toNat, 0]
def k0_off2 (d0 : Dev nD) : Fin 3 → Nat :=
  let c0_i32_28 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_4 : BitVec 32 := 512#32
  let v9 : BitVec 32 := Scalar.muli v5 c512_i32_4
  let c0_i32_29 : BitVec 32 := 0#32
  ![0, v9.toNat, 0]
def k0_dev1 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v45 : BitVec 32 := Scalar.muli v2 c2_i32_31
  let v46 : BitVec 32 := Scalar.addi c0_i32_32 v45
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_33 : BitVec 32 := 1#32
  let v47 : BitVec 32 := Scalar.muli v6 c1_i32_33
  let v48 : BitVec 32 := Scalar.addi v46 v47
  v48.toNat
def k0_dev2 (d0 : Dev nD) : Nat :=
  let c0_i32_84 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_83 : BitVec 32 := 2#32
  let v97 : BitVec 32 := Scalar.muli v2 c2_i32_83
  let v98 : BitVec 32 := Scalar.addi c0_i32_84 v97
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_85 : BitVec 32 := 1#32
  let v99 : BitVec 32 := Scalar.muli v6 c1_i32_85
  let v100 : BitVec 32 := Scalar.addi v98 v99
  v100.toNat
def k0_dev3 (d0 : Dev nD) : Nat :=
  let c0_i32_95 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_94 : BitVec 32 := 2#32
  let v109 : BitVec 32 := Scalar.muli v2 c2_i32_94
  let v110 : BitVec 32 := Scalar.addi c0_i32_95 v109
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_96 : BitVec 32 := 1#32
  let v111 : BitVec 32 := Scalar.muli v6 c1_i32_96
  let v112 : BitVec 32 := Scalar.addi v110 v111
  v112.toNat
def k0_dev4 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_105 : BitVec 32 := 2#32
  let v121 : BitVec 32 := Scalar.muli v2 c2_i32_105
  let v122 : BitVec 32 := Scalar.addi c0_i32_106 v121
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_107 : BitVec 32 := 1#32
  let v123 : BitVec 32 := Scalar.muli v6 c1_i32_107
  let v124 : BitVec 32 := Scalar.addi v122 v123
  v124.toNat
def k0_dev5 (d0 : Dev nD) : Nat :=
  let c0_i32_117 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_116 : BitVec 32 := 2#32
  let v133 : BitVec 32 := Scalar.muli v2 c2_i32_116
  let v134 : BitVec 32 := Scalar.addi c0_i32_117 v133
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_118 : BitVec 32 := 1#32
  let v135 : BitVec 32 := Scalar.muli v6 c1_i32_118
  let v136 : BitVec 32 := Scalar.addi v134 v135
  v136.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x1024x512 : Shape := ⟨3, ![2, 1024, 512]⟩
abbrev S512 : Shape := ⟨1, ![512]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512, .f32⟩
  | .hbm, ⟨2, _⟩ => ⟨S_, .f32⟩
  | .hbm, ⟨3, _⟩ => ⟨S1024x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S1x512, .f32⟩
  | .hbm, ⟨18, _⟩ => ⟨S1024x512, .f32⟩
  | .hbm, ⟨19, _⟩ => ⟨S1024x512, .f32⟩
  | .hbm, ⟨20, _⟩ => ⟨S1024x512, .bf16⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.KernelIdealTalk.lean ====
/-
  The exchange between the two devices of a row of the 2 × 2 mesh, stated once for every device `c`.

  Device `c` of the mesh holds half of the sum's terms. It rounds the half of its rows its row mate answers for to
  bf16, in four slots, and copies each slot into the same slot of the mate's landing buffer. Before the first copy the
  two devices meet at the barrier semaphore: a device signals its mate once its landing buffer may be written.

  Nine semaphores of every device take part: the barrier, four on which its own copies depart, four on which the
  mate's copies arrive. Each is used once. What a device hands over with each is listed here; the run of the kernel's
  body over this list is in `KernelIdealBody`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Tactic
public import Idealize.ShloMosaic.Lib.Pipeline.Kit

@[expose] public section

set_option maxRecDepth 16384

noncomputable section

namespace Cert.KernelIdeal.Talk

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: the pipeline's own cells, the exchange's cells, and the counters of the plain copies. -/
abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) :=
  ((Emb.inl : Emb (UR sig nD τ) (UR sig nD τ × Counters)).trans (Emb.inr : Emb (UR sig nD τ × Counters) UU)).trans uEmb.toEmb

/-! ## The row mate -/

/-- Device `(i, j)` of the mesh exchanges with `(i, 1 - j)`. -/
def mate (c : Dev nD) : Dev nD := ⟨2 * (c.val / 2) + 1 - c.val % 2, by revert c; decide⟩

theorem mate_mate (c : Dev nD) : mate (mate c) = c := by revert c; decide

theorem dev1_mate (c : Dev nD) : (⟨k0_dev1 c, k0_dev1_lt c⟩ : Dev nD) = mate c := Fin.ext (k0_dev1_eq c)
theorem dev2_mate (c : Dev nD) : (⟨k0_dev2 c, k0_dev2_lt c⟩ : Dev nD) = mate c := Fin.ext (k0_dev2_eq c)
theorem dev3_mate (c : Dev nD) : (⟨k0_dev3 c, k0_dev3_lt c⟩ : Dev nD) = mate c := Fin.ext (k0_dev3_eq c)
theorem dev4_mate (c : Dev nD) : (⟨k0_dev4 c, k0_dev4_lt c⟩ : Dev nD) = mate c := Fin.ext (k0_dev4_eq c)
theorem dev5_mate (c : Dev nD) : (⟨k0_dev5 c, k0_dev5_lt c⟩ : Dev nD) = mate c := Fin.ext (k0_dev5_eq c)

/-- The exchange as a permutation of the devices. -/
def mates : Dev nD ≃ Dev nD := ⟨mate, mate, mate_mate, mate_mate⟩

/-! ## Buffers and windows -/

abbrev xM : Memref sig .tc .hbm S1x1024x512 .f32 := Memref.whole main_arg0
abbrev gM : Memref sig .tc .hbm S1x512 .f32 := Memref.whole main_v1
abbrev oM : Memref sig .tc .vmem S512x512 .bf16 := Memref.whole cc0_stg0_0
abbrev rawM : Memref sig .tc .vmem S4x128x512 .f32 := Memref.whole cc0_scratch0
abbrev locM : Memref sig .tc .vmem S512x512 .f32 := Memref.whole cc0_scratch1
abbrev sendM : Memref sig .tc .vmem S4x128x512 .bf16 := Memref.whole cc0_scratch2
abbrev recvM : Memref sig .tc .vmem S4x128x512 .bf16 := Memref.whole cc0_scratch3
abbrev gamM : Memref sig .tc .vmem S1x512 .f32 := Memref.whole cc0_scratch4

/-- The four slots of a buffer of four. -/
abbrev slot0 {e : EltTy} (M : Memref sig .tc .vmem S4x128x512 e) : Memref sig .tc .vmem S128x512 e :=
  (M.slice (Rect.unit (s := S4x128x512) ![0, 0, 0] S1x128x512.size inb_S4x128x512_S1x128x512_0_0_0) (fun _ => rfl)).squeeze S128x512 squeezes_S1x128x512_S128x512
abbrev slot1 {e : EltTy} (M : Memref sig .tc .vmem S4x128x512 e) : Memref sig .tc .vmem S128x512 e :=
  (M.slice (Rect.unit (s := S4x128x512) ![1, 0, 0] S1x128x512.size inb_S4x128x512_S1x128x512_1_0_0) (fun _ => rfl)).squeeze S128x512 squeezes_S1x128x512_S128x512
abbrev slot2 {e : EltTy} (M : Memref sig .tc .vmem S4x128x512 e) : Memref sig .tc .vmem S128x512 e :=
  (M.slice (Rect.unit (s := S4x128x512) ![2, 0, 0] S1x128x512.size inb_S4x128x512_S1x128x512_2_0_0) (fun _ => rfl)).squeeze S128x512 squeezes_S1x128x512_S128x512
abbrev slot3 {e : EltTy} (M : Memref sig .tc .vmem S4x128x512 e) : Memref sig .tc .vmem S128x512 e :=
  (M.slice (Rect.unit (s := S4x128x512) ![3, 0, 0] S1x128x512.size inb_S4x128x512_S1x128x512_3_0_0) (fun _ => rfl)).squeeze S128x512 squeezes_S1x128x512_S128x512

/-- Slot `k`. -/
def slot {e : EltTy} (M : Memref sig .tc .vmem S4x128x512 e) : Fin 4 → Memref sig .tc .vmem S128x512 e
  | 0 => slot0 M | 1 => slot1 M | 2 => slot2 M | 3 => slot3 M

/-- The four pieces of the rows device `c` sends: what the copies into the raw slots read. -/
abbrev src0 (c : Dev nD) : Memref sig .tc .hbm S128x512 .f32 :=
  (xM.slice (Rect.unit (s := S1x1024x512) (k0_off1 c 0#32) S1x128x512.size (k0_off1_inb c 0)) (fun _ => rfl)).squeeze S128x512 squeezes_S1x128x512_S128x512
abbrev src1 (c : Dev nD) : Memref sig .tc .hbm S128x512 .f32 :=
  (xM.slice (Rect.unit (s := S1x1024x512) (k0_off1 c 128#32) S1x128x512.size (k0_off1_inb c 1)) (fun _ => rfl)).squeeze S128x512 squeezes_S1x128x512_S128x512
abbrev src2 (c : Dev nD) : Memref sig .tc .hbm S128x512 .f32 :=
  (xM.slice (Rect.unit (s := S1x1024x512) (k0_off1 c 256#32) S1x128x512.size (k0_off1_inb c 2)) (fun _ => rfl)).squeeze S128x512 squeezes_S1x128x512_S128x512
abbrev src3 (c : Dev nD) : Memref sig .tc .hbm S128x512 .f32 :=
  (xM.slice (Rect.unit (s := S1x1024x512) (k0_off1 c 384#32) S1x128x512.size (k0_off1_inb c 3)) (fun _ => rfl)).squeeze S128x512 squeezes_S1x128x512_S128x512

/-- The rows device `c` keeps. -/
abbrev kept (c : Dev nD) : Memref sig .tc .hbm S512x512 .f32 :=
  (xM.slice (Rect.unit (s := S1x1024x512) (k0_off2 c) S1x512x512.size (k0_off2_inb c)) (fun _ => rfl)).squeeze S512x512 squeezes_S1x512x512_S512x512

/-! ## The cells -/

abbrev barS : Sem sig := barrier0
abbrev sendS (k : Fin 4) : DmaSem sig := ⟨7 + k.val, by have := k.isLt; show 7 + k.val < 15; omega⟩
abbrev recvS (k : Fin 4) : DmaSem sig := ⟨11 + k.val, by have := k.isLt; show 11 + k.val < 15; omega⟩

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

/-- What one slot's copy credits a semaphore by. -/
abbrev N : ℕ := (slot0 recvM).view.dmaCredit
theorem N_pos : 0 < N := View.dmaCredit_pos _ (by decide)

/-! ## Contents -/

variable (V : Dev nD → Valuation τ sig (Elt F))

/-- What slot `k` of device `c`'s copy carries: its piece `k`, rounded. -/
def sent (c : Dev nD) : Fin 4 → Vec F S128x512 .bf16
  | 0 => truncf .bf16 ((src0 c).view.read (Elt F) (V c main_arg0)) bitsLt_bf16_f32
  | 1 => truncf .bf16 ((src1 c).view.read (Elt F) (V c main_arg0)) bitsLt_bf16_f32
  | 2 => truncf .bf16 ((src2 c).view.read (Elt F) (V c main_arg0)) bitsLt_bf16_f32
  | 3 => truncf .bf16 ((src3 c).view.read (Elt F) (V c main_arg0)) bitsLt_bf16_f32

/-- A memref's own elements on device `c`, at contents `f`. -/
abbrev win (c : Dev nD) {sp : Space} {s : Shape} {e : EltTy} (m : Memref sig .tc sp s e) (f : Buf (Elt F) (m.view.loc (c : Thread nD τ))) : sProp 𝕄 :=
  m.view.loc (c : Thread nD τ) ↦[m.view.set]{fullShare} f

/-- A memref's own elements on device `c`, reading `x`. -/
abbrev holds (c : Dev nD) {sp : Space} {s : Shape} {e : EltTy} (m : Memref sig .tc sp s e) (x : s.Idx → Elt F e) : sProp 𝕄 :=
  win c m (m.view.rep x)

/-- A memref's own elements on device `c`, at some contents. -/
def some' (c : Dev nD) {sp : Space} {s : Shape} {e : EltTy} (m : Memref sig .tc sp s e) : sProp 𝕄 :=
  iprop(∃ f : Buf (Elt F) (m.view.loc (c : Thread nD τ)), win c m f)

/-! ## What is handed over with each semaphore -/

/-- With the mate's signal at the barrier: its landing buffer, slot by slot, and that its arrivals are ready. -/
def barPay (c : Dev nD) : sProp 𝕄 :=
  iprop(some' (mate c) (slot0 recvM) ∗ some' (mate c) (slot1 recvM) ∗ some' (mate c) (slot2 recvM) ∗ some' (mate c) (slot3 recvM)
    ∗ reached ER (recvCell (mate c) 0) 0 ∗ reached ER (recvCell (mate c) 1) 0 ∗ reached ER (recvCell (mate c) 2) 0 ∗ reached ER (recvCell (mate c) 3) 0)
/-- With the mate's copy: the slot it filled. -/
def recvPay (c : Dev nD) (k : Fin 4) : sProp 𝕄 := holds c (slot recvM k) (sent V (mate c) k)
/-- With the departure of the own copy: the slot it was read from. -/
def sendPay (c : Dev nD) (k : Fin 4) : sProp 𝕄 := some' c (slot sendM k)

/-- The payload of a semaphore of device `c`, by the semaphore. -/
def payOf (c : Dev nD) : SemLoc sig → sProp 𝕄
  | .reg _ => barPay c
  | .dma s => if 11 ≤ s.val then recvPay V c ⟨(s.val - 11) % 4, Nat.mod_lt _ (by decide)⟩
      else if 7 ≤ s.val then sendPay c ⟨(s.val - 7) % 4, Nat.mod_lt _ (by decide)⟩ else iprop(emp)

/-- The semaphores that take part. -/
def takesPart : SemLoc sig → Bool
  | .reg _ => true
  | .dma s => decide (7 ≤ s.val)

def isBar : SemLoc sig → Bool
  | .reg _ => true
  | .dma _ => false

/-- One unit of work, in round 0, for each semaphore of a device that takes part. -/
def dutiesOf (g : GSem nD τ sig) (r : ℕ) : Finset Unit := if r = 0 ∧ g.1.2 = .tc ∧ takesPart g.2 = true then {()} else ∅

/-- One use of each semaphore that takes part. -/
def talkRd : Rounds.Schedule (GSem nD τ sig) Unit 𝕄 where
  duties := dutiesOf
  unitless _ := False
  amount g _ _ := if isBar g.2 then 1 else N
  payload g _ _ := payOf V g.1.1 g.2
  amount_pos g _ _ _ := by
    split
    · exact Nat.one_pos
    · exact N_pos

instance some'_storable (c : Dev nD) {sp : Space} {s : Shape} {e : EltTy} (m : Memref sig .tc sp s e) :
    BI.Storable (upEmb : UEmb _ 𝕄) (some' (F := F) c m) := by unfold some'; infer_instance
instance barPay_storable (c : Dev nD) : BI.Storable (upEmb : UEmb _ 𝕄) (barPay (F := F) c) := by unfold barPay; infer_instance
instance recvPay_storable (c : Dev nD) (k : Fin 4) : BI.Storable (upEmb : UEmb _ 𝕄) (recvPay V c k) := by unfold recvPay; infer_instance
instance sendPay_storable (c : Dev nD) (k : Fin 4) : BI.Storable (upEmb : UEmb _ 𝕄) (sendPay (F := F) c k) := by unfold sendPay; infer_instance

instance talkRd_payload_storable (g : GSem nD τ sig) (r : ℕ) (d : Unit) :
    BI.Storable (upEmb : UEmb _ 𝕄) ((talkRd V).payload g r d) := by
  show BI.Storable upEmb (payOf V g.1.1 g.2)
  unfold payOf
  split
  · infer_instance
  · (repeat' split) <;> infer_instance

section Tables

variable (c : Dev nD) (k : Fin 4)

theorem duties_bar : (talkRd V).duties (barCell c) 0 = {()} :=
  (if_pos ⟨rfl, rfl, rfl⟩ : dutiesOf (barCell c) 0 = {()})
theorem duties_send : (talkRd V).duties (sendCell c k) 0 = {()} :=
  (if_pos ⟨rfl, rfl, decide_eq_true (by show 7 ≤ 7 + k.val; omega)⟩ : dutiesOf (sendCell c k) 0 = {()})
theorem duties_recv : (talkRd V).duties (recvCell c k) 0 = {()} :=
  (if_pos ⟨rfl, rfl, decide_eq_true (by show 7 ≤ 11 + k.val; omega)⟩ : dutiesOf (recvCell c k) 0 = {()})
theorem duties_later (g : GSem nD τ sig) : ∀ r, 1 ≤ r → (talkRd V).duties g r = ∅ := fun r hr =>
  (if_neg fun h => by omega : dutiesOf g r = ∅)

theorem amount_bar (u : Unit) : (talkRd V).amount (barCell c) 0 u = 1 := rfl
theorem amount_send (u : Unit) : (talkRd V).amount (sendCell c k) 0 u = N := rfl
theorem amount_recv (u : Unit) : (talkRd V).amount (recvCell c k) 0 u = N := rfl

theorem expect_bar : (talkRd V).expect (barCell c) 0 = 1 := by
  unfold Schedule.expect Schedule.amountOf; rw [duties_bar, Finset.sum_singleton, amount_bar]
theorem expect_send : (talkRd V).expect (sendCell c k) 0 = N := by
  unfold Schedule.expect Schedule.amountOf; rw [duties_send, Finset.sum_singleton, amount_send]
theorem expect_recv : (talkRd V).expect (recvCell c k) 0 = N := by
  unfold Schedule.expect Schedule.amountOf; rw [duties_recv, Finset.sum_singleton, amount_recv]

theorem payload_bar (u : Unit) : (talkRd V).payload (barCell c) 0 u = barPay c := rfl
theorem payload_send (u : Unit) : (talkRd V).payload (sendCell c k) 0 u = sendPay c k := by
  show (if 11 ≤ 7 + k.val then recvPay V c ⟨(7 + k.val - 11) % 4, Nat.mod_lt _ (by decide)⟩
    else if 7 ≤ 7 + k.val then sendPay c ⟨(7 + k.val - 7) % 4, Nat.mod_lt _ (by decide)⟩ else iprop(emp)) = _
  rw [if_neg (by omega), if_pos (by omega)]
  congr 1; apply Fin.ext; show (7 + k.val - 7) % 4 = k.val; omega
theorem payload_recv (u : Unit) : (talkRd V).payload (recvCell c k) 0 u = recvPay V c k := by
  show (if 11 ≤ 11 + k.val then recvPay V c ⟨(11 + k.val - 11) % 4, Nat.mod_lt _ (by decide)⟩
    else if 7 ≤ 11 + k.val then sendPay c ⟨(11 + k.val - 7) % 4, Nat.mod_lt _ (by decide)⟩ else iprop(emp)) = _
  rw [if_pos (by omega)]
  congr 1; apply Fin.ext; show (11 + k.val - 11) % 4 = k.val; omega

theorem rest_bar : bigSep ((talkRd V).duties (barCell c) 0 \ ∅) (fun u => (talkRd V).payload (barCell c) 0 u) = barPay c := by
  rw [Finset.sdiff_empty, duties_bar, bigSep_singleton, payload_bar]
theorem rest_send : bigSep ((talkRd V).duties (sendCell c k) 0 \ ∅) (fun u => (talkRd V).payload (sendCell c k) 0 u) = sendPay c k := by
  rw [Finset.sdiff_empty, duties_send, bigSep_singleton, payload_send]
theorem rest_recv : bigSep ((talkRd V).duties (recvCell c k) 0 \ ∅) (fun u => (talkRd V).payload (recvCell c k) 0 u) = recvPay V c k := by
  rw [Finset.sdiff_empty, duties_recv, bigSep_singleton, payload_recv]

end Tables

/-! ## What a device owes, and in which order it may wait -/

/-- The four arrivals device `c` owes its mate once it has signalled; -/
abbrev OR (c : Dev nD) : CellTallies nD τ sig Unit :=
  tallyAt (recvCell (mate c) 3) () N + tallyAt (recvCell (mate c) 2) () N + tallyAt (recvCell (mate c) 1) () N + tallyAt (recvCell (mate c) 0) () N
/-- and the signal, before. -/
def O₀ (c : Dev nD) : CellTallies nD τ sig Unit := OR c + tallyAt (barCell (mate c)) () 1

def L (g : GSem nD τ sig) : Finset Unit := if g.1.2 = .tc then {()} else ∅

/-- The barrier before the arrivals, everything else before both. -/
def lvS : SemLoc sig → ℕ
  | .reg _ => 1
  | .dma s => if 11 ≤ s.val then 2 else 0
def lv (g : GSem nD τ sig) (_ : Unit) : ℕ := lvS g.2

theorem L_tc (c : Dev nD) (sm : SemLoc sig) : L ((c : Thread nD τ), sm) = {()} := if_pos rfl
theorem L_of_ne (g : GSem nD τ sig) (h : g.1.2 ≠ .tc) : L g = ∅ := if_neg h

/-- A summand of what is owed. -/
theorem tallyAt_pos {g g' : GSem nD τ sig} {u : Unit} {n : ℕ} (h : 0 < (tallyAt g () n : CellTallies nD τ sig Unit) g' u) : g' = g := by
  rw [tallyAt_apply] at h
  split at h
  · next hg => exact hg.1
  · exact absurd h (Nat.lt_irrefl 0)

theorem add_pos_cases {O O' : CellTallies nD τ sig Unit} {g : GSem nD τ sig} {u : Unit} (h : 0 < (O + O') g u) : 0 < O g u ∨ 0 < O' g u := by
  rw [Pi.add_apply, Finsupp.add_apply] at h
  exact Nat.add_pos_iff_pos_or_pos.mp h

theorem OR_pos {c : Dev nD} {g : GSem nD τ sig} {u : Unit} (h : 0 < OR c g u) : ∃ k, g = recvCell (mate c) k := by
  rcases add_pos_cases h with h | h
  · rcases add_pos_cases h with h | h
    · rcases add_pos_cases h with h | h
      · exact ⟨3, tallyAt_pos h⟩
      · exact ⟨2, tallyAt_pos h⟩
    · exact ⟨1, tallyAt_pos h⟩
  · exact ⟨0, tallyAt_pos h⟩

theorem O₀_pos {c : Dev nD} {g : GSem nD τ sig} {u : Unit} (h : 0 < O₀ c g u) : (∃ k, g = recvCell (mate c) k) ∨ g = barCell (mate c) := by
  rcases add_pos_cases h with h | h
  · exact .inl (OR_pos h)
  · exact .inr (tallyAt_pos h)

theorem lv_recv (c : Dev nD) (k : Fin 4) (u : Unit) : lv (recvCell c k) u = 2 := if_pos (by show 11 ≤ 11 + k.val; omega)

/-- While only arrivals are owed, a semaphore below them may be waited for. -/
theorem mayWait_low (c : Dev nD) (sm : SemLoc sig) (hs : lvS sm < 2) :
    (levAts L lv : sProp 𝕄) ⊢ MayWait (c : Thread nD τ) sm () (OR c) :=
  MayOwe.of_cut (L := L) (lev := lv) 1 (fun p hp => by rw [Finset.mem_singleton.mp hp, L_tc]; exact Finset.mem_singleton_self _)
    (fun g u hg => by
      obtain ⟨k, rfl⟩ := OR_pos hg
      rw [L_tc]; exact Finset.mem_singleton_self _)
    (fun p hp => by rw [Finset.mem_singleton.mp hp]; exact Nat.le_of_lt_succ hs)
    (fun g u hg => by
      obtain ⟨k, rfl⟩ := OR_pos hg
      rw [lv_recv]; decide)

end Cert.KernelIdeal.Talk

end
-- ==== Proof.KernelIdealBody.lean ====
/-
  The kernel's body, run once at a symbolic device.
-/
module

public import proofs.«01_k».proof.Proof.KernelIdealTalk
public import Idealize.ShloMosaic.Lib.Pipeline.Value
public import Idealize.ShloMosaic.Lib.VecWindow
public import Idealize.ShloMosaic.Lib.WritesUnit
public import Idealize.ShloMosaic.Lib.ValueIdxCore

@[expose] public section

set_option maxRecDepth 16384

noncomputable section

namespace Cert.KernelIdeal.Talk

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (V : Dev nD → Valuation τ sig (Elt F))

/-- A memref's own elements on device `c`, at contents `f`, at a share of them. -/
abbrev part (c : Dev nD) {sp : Space} {s : Shape} {e : EltTy} (m : Memref sig .tc sp s e) (q : PosShare TreeShare)
    (f : Buf (Elt F) (m.view.loc (c : Thread nD τ))) : sProp 𝕄 :=
  m.view.loc (c : Thread nD τ) ↦[m.view.set]{q} f

/-- The counter of the `n`-th of the semaphores the copies into the own scratch complete on. -/
abbrev ldCell (c : Dev nD) (n : Fin 6) : GSem nD τ sig := ((c : Thread nD τ), .dma ⟨1 + n.val, by have := n.isLt; show 1 + n.val < 15; omega⟩)

abbrev 𝒱₀ : Variants := Variants.none

/-- The kernel's call of its body. -/
abbrev body : Prog (TpuEff nD τ sig (Elt F) Λ₀ .tc) PUnit :=
  cc0_body (F := F) xM (Memref.isWhole_whole _) gM (Memref.isWhole_whole _) oM (Memref.isWhole_whole _) rawM (Memref.isWhole_whole _)
    locM (Memref.isWhole_whole _) sendM (Memref.isWhole_whole _) recvM (Memref.isWhole_whole _) gamM (Memref.isWhole_whole _)
    cc0_scratch5 cc0_scratch6 cc0_scratch7

theorem payload_bar_own (c : Dev nD) (u : Unit) : (talkRd V).payload (barCell c) 0 u =
    iprop(some' (mate c) (slot0 recvM) ∗ some' (mate c) (slot1 recvM) ∗ some' (mate c) (slot2 recvM) ∗ some' (mate c) (slot3 recvM)
      ∗ reached ER (recvCell (mate c) 0) 0 ∗ reached ER (recvCell (mate c) 1) 0 ∗ reached ER (recvCell (mate c) 2) 0 ∗ reached ER (recvCell (mate c) 3) 0) := rfl

theorem payload_recv0 (c : Dev nD) (u : Unit) : (talkRd V).payload (recvCell c 0) 0 u = holds c (slot0 recvM) (sent V (mate c) 0) := rfl
theorem payload_recv1 (c : Dev nD) (u : Unit) : (talkRd V).payload (recvCell c 1) 0 u = holds c (slot1 recvM) (sent V (mate c) 1) := rfl
theorem payload_recv2 (c : Dev nD) (u : Unit) : (talkRd V).payload (recvCell c 2) 0 u = holds c (slot2 recvM) (sent V (mate c) 2) := rfl
theorem payload_recv3 (c : Dev nD) (u : Unit) : (talkRd V).payload (recvCell c 3) 0 u = holds c (slot3 recvM) (sent V (mate c) 3) := rfl
theorem payload_send0 (c : Dev nD) (u : Unit) : (talkRd V).payload (sendCell c 0) 0 u = some' c (slot0 sendM) := rfl
theorem payload_send1 (c : Dev nD) (u : Unit) : (talkRd V).payload (sendCell c 1) 0 u = some' c (slot1 sendM) := rfl
theorem payload_send2 (c : Dev nD) (u : Unit) : (talkRd V).payload (sendCell c 2) 0 u = some' c (slot2 sendM) := rfl
theorem payload_send3 (c : Dev nD) (u : Unit) : (talkRd V).payload (sendCell c 3) 0 u = some' c (slot3 sendM) := rfl

attribute [local sl_rounds] duties_bar amount_bar expect_bar payload_bar_own mate_mate
  duties_send amount_send expect_send payload_send0 payload_send1 payload_send2 payload_send3
  duties_recv amount_recv expect_recv payload_recv0 payload_recv1 payload_recv2 payload_recv3

/-- What a slot reads once it was stored the rounded value of the same slot of the raw buffer, which a copy had filled
    with `y`: `y`, rounded. -/
theorem stored_slot (M : Memref sig .tc .vmem S4x128x512 .bf16) (R : Memref sig .tc .vmem S4x128x512 .f32) (r : Rect S4x128x512)
    (hr : ∀ a, r.stride a = 1) (hq : r.shape.Squeezes S128x512) (hc : r.shape.ShapeCasts S128x512) (hc' : S128x512.ShapeCasts r.shape)
    (f : M.view.ty.Contents (Elt F)) (g : R.view.ty.Contents (Elt F)) (y : Vec F S128x512 .f32) :
    ((M.slice r hr).squeeze S128x512 hq).view.read (Elt F)
        ((M.access r).write (Elt F) f
          (shapeCast r.shape (truncf .bf16 (shapeCast S128x512
            (R.view.readAt (Elt F) r.toLoadRect (((R.slice r hr).squeeze S128x512 hq).view.writes (Elt F) g [⟨Rect.whole S128x512, y⟩])) hc) bitsLt_bf16_f32) hc')
          Finset.univ)
      = truncf .bf16 y bitsLt_bf16_f32 := by
  rw [Memref.read_squeeze_slice M r hr hq hc, ← Memref.read_squeeze_slice R r hr hq hc, View.read_writes_whole]
  refine Eq.trans ?_ (shapeCast_shapeCast (truncf .bf16 y bitsLt_bf16_f32) hc' hc)
  congr 1
  exact View.read_write_univ (v := M.access r) f _

/-- Contents of a memref that read `x`, as the canonical ones. -/
theorem holds_of_read (c : Dev nD) {sp : Space} {s : Shape} {e : EltTy} (m : Memref sig .tc sp s e) (x : s.Idx → Elt F e)
    (f : Buf (Elt F) (m.view.loc (c : Thread nD τ))) (h : m.view.read (Elt F) f = x) : win c m f ⊢ holds c m x :=
  pointsTo_rep_of_read (c : Thread nD τ) m f fullShare x h

theorem some'_of (c : Dev nD) {sp : Space} {s : Shape} {e : EltTy} (m : Memref sig .tc sp s e)
    (f : Buf (Elt F) (m.view.loc (c : Thread nD τ))) : win c m f ⊢ some' c m := by
  unfold some'; iintro H; iexists f; iexact H

/-- The copy of one slot, holding `x`, into the mate's landing slot: the departure pays with the slot, the arrival with
    the landing slot reading `x`, and the arrival is owed no longer. -/
theorem send_slot (c d : Dev nD) (hd : d = mate c) (k : Fin 4) (sS sR : SemLoc sig) (hsS : sS = .dma (sendS k)) (hsR : sR = .dma (recvS k)) (κ₁ κ₂ : ℕ) (W : Waits sig Unit)
    (S D : Memref sig .tc .vmem S128x512 .bf16) (x : Vec F S128x512 .bf16) (g : Buf (Elt F) (D.view.loc (mate c : Thread nD τ)))
    (hS : some' c S ⊢ (talkRd V).payload (sendCell c k) 0 ()) (hD : holds (mate c) D x ⊢ (talkRd V).payload (recvCell (mate c) k) 0 ())
    (hN : D.view.amount (.dma (recvS k)) = N) (O O' : CellTallies nD τ sig Unit) (hO : O' = O + tallyAt (recvCell (mate c) k) () N)
    {hsc : D.view.ref.isScScratch = false} {h1 : S.view.WordExact} {h2 : D.view.WordExact}
    {h3 : DmaTarget.Typed .vmem sR (.remote (d : Thread nD τ) D sS hsc)} {α : Type}
    {kont : PUnit → Prog (TpuEff nD τ sig (Elt F) Λ₀ .tc) α} {Q : α → sProp 𝕄} :
    iprop(cellInv ER (talkRd V) κ₁ (sendCell c k) ∗ cellInv ER (talkRd V) κ₂ (recvCell (mate c) k)
        ∗ holds c S x ∗ win (mate c) D g ∗ owes (c : Thread nD τ) O' W
        ∗ dutyTok ER (sendCell c k) 0 () ∗ reached ER (sendCell c k) 0
        ∗ dutyTok ER (recvCell (mate c) k) 0 () ∗ reached ER (recvCell (mate c) k) 0)
      ⊢ iprop(((cred (tallyAt (sendCell c k) () N) ∗ owes (c : Thread nD τ) O W)
            -∗ wp frame (wpE (defs₀ (F := F)) 𝒱₀ c none) Set.univ (kont ⟨⟩) Q)
          -∗ wp frame (wpE (defs₀ (F := F)) 𝒱₀ c none) Set.univ
            (.op (.enqueueDma S (.remote (d : Thread nD τ) D sS hsc) sR h1 h2 h3) kont) Q) := by
  subst hd hsS hsR
  exact Rounds.wp_send_pointsTo 𝒱₀ ER (talkRd V) (c : Thread nD τ) none (c' := (mate c : Thread nD τ)) (src := S) (dst := D)
    (sS := .dma (sendS k)) (sem := .dma (recvS k)) (q := fullShare) (fs := S.view.rep x) (κ₁ := κ₁) (κ₂ := κ₂)
    (r₁ := 0) (r₂ := 0) (d₁ := ()) (d₂ := ()) (fd := g)
    (by rw [duties_send]; exact Finset.mem_singleton_self _) (by rw [duties_recv]; exact Finset.mem_singleton_self _)
    () () N hN (amount_send V c k ()) (amount_recv V (mate c) k ()) O hO
    ((some'_of c S _).trans hS)
    ((holds_of_read (mate c) D x _ (by rw [View.read_write_univ, View.read_rep])).trans hD)

/-! ## What the body leaves in the result's buffer -/

/-- One block of 128 rows: the kept rows plus the rows received, each row divided by its root mean square and scaled. -/
def normed (v : Vec F S128x512 .f32) (w : Vec F S128x512 .bf16) (g : Vec F S1x512 .f32) : FVec F S128x512 .bf16 :=
  let y := addf v (extf .f32 w bitsLt_bf16_f32)
  let mean := divf (shapeCast S128x1 (multiReduction .add [1] S128 (mulf y y) 0x00000000#32 reduces_S128x512_S128 (.inl rfl) rfl) shapeCasts_S128_S128x1)
    (broadcast S128x1 (Scalar.ofBits .f32 0x44000000#32))
  let scale := rsqrt (addf mean (broadcast S128x1 (Scalar.ofBits .f32 0x358637BD#32)))
  truncf .bf16 (mulf (mulf y (broadcastTo S128x512 scale broadcasts_S128x1_S128x512)) (broadcastTo S128x512 g broadcasts_S1x512_S128x512)) bitsLt_bf16_f32

/-- The rows device `c` keeps, and the scale. -/
def keptRows (c : Dev nD) : Vec F S512x512 .f32 := (kept c).view.read (Elt F) (V c main_arg0)
def gamma (c : Dev nD) : Vec F S1x512 .f32 := gM.view.read (Elt F) (V c main_v1)

/-- Block `k` of the result. -/
def blockOf (c : Dev nD) : Fin 4 → FVec F S128x512 .bf16
  | 0 => normed (fun j => keptRows V c ((Rect.unit (s := S512x512) ![0, 0] S128x512.size inb_S512x512_S128x512_0_0).emb j)) (sent V (mate c) 0) (gamma V c)
  | 1 => normed (fun j => keptRows V c ((Rect.unit (s := S512x512) ![128, 0] S128x512.size inb_S512x512_S128x512_128_0).emb j)) (sent V (mate c) 1) (gamma V c)
  | 2 => normed (fun j => keptRows V c ((Rect.unit (s := S512x512) ![256, 0] S128x512.size inb_S512x512_S128x512_256_0).emb j)) (sent V (mate c) 2) (gamma V c)
  | 3 => normed (fun j => keptRows V c ((Rect.unit (s := S512x512) ![384, 0] S128x512.size inb_S512x512_S128x512_384_0).emb j)) (sent V (mate c) 3) (gamma V c)

/-- Where row and column of the result lie in their block. -/
def within (i : S512x512.Idx) : S128x512.Idx := ix2 (⟨(i 0).val % 128, Nat.mod_lt _ (by decide)⟩ : Fin 128) (i 1)

/-- The result, block by block. -/
def result (c : Dev nD) : Vec F S512x512 .bf16 := fun i =>
  blockOf V c ⟨(i 0).val / 128, by have : (i 0).val < 512 := (i 0).isLt; omega⟩ (within i)

/-- A load of some rows of a buffer a copy had filled with `x`. -/
theorem load_rows (M : Memref sig .tc .vmem S512x512 .f32) (r : Rect S512x512) (f : M.view.ty.Contents (Elt F)) (x : Vec F S512x512 .f32) :
    M.view.readAt (Elt F) r.toLoadRect (M.view.writes (Elt F) f [⟨Rect.whole S512x512, x⟩]) = fun j => x (r.emb j) := by
  funext j
  exact congrFun (View.read_writes_whole M.view f x) (r.emb j)

/-- A load of a slot that holds `x`. -/
theorem load_slot (M : Memref sig .tc .vmem S4x128x512 .bf16) (r : Rect S4x128x512) (hr : ∀ a, r.stride a = 1) (hq : r.shape.Squeezes S128x512)
    (hc : r.shape.ShapeCasts S128x512) (x : Vec F S128x512 .bf16) :
    shapeCast S128x512 (M.view.readAt (Elt F) r.toLoadRect (((M.slice r hr).squeeze S128x512 hq).view.rep x)) hc = x := by
  rw [← Memref.read_squeeze_slice M r hr hq hc, View.read_rep]

/-- The kernel's four ways of writing a block's arithmetic are one. -/
theorem pay_first (v : Vec F S128x512 .f32) (w : Vec F S1x128x512 .bf16) (g : Vec F S1x512 .f32) :
    k0_pay8 (k0_pay6 v w) (k0_pay7 v w) g = normed v (shapeCast S128x512 w shapeCasts_S1x128x512_S128x512) g := rfl
theorem pay_second (v : Vec F S128x512 .f32) (w : Vec F S1x128x512 .bf16) (g : Vec F S1x512 .f32) :
    k0_pay11 (k0_pay9 v w) (k0_pay10 g) = normed v (shapeCast S128x512 w shapeCasts_S1x128x512_S128x512) g := rfl
theorem pay_third (v : Vec F S128x512 .f32) (w : Vec F S1x128x512 .bf16) (g : Vec F S1x512 .f32) :
    k0_pay12 v w g = normed v (shapeCast S128x512 w shapeCasts_S1x128x512_S128x512) g := rfl
theorem pay_last (v : Vec F S128x512 .f32) (w : Vec F S1x128x512 .bf16) (g : Vec F S1x512 .f32) :
    k0_pay13 v w g = normed v (shapeCast S128x512 w shapeCasts_S1x128x512_S128x512) g := rfl

/-- A load of the whole scale, which a copy had filled. -/
theorem load_gamma (f : gamM.view.ty.Contents (Elt F)) (g : Vec F S1x512 .f32) :
    gamM.view.readAt (Elt F) (Rect.unit (s := S1x512) ![0, 0] S1x512.size inb_S1x512_S1x512_0_0).toLoadRect
      (gamM.view.writes (Elt F) f [⟨Rect.whole S1x512, g⟩]) = g := by
  funext j
  refine (congrFun (View.read_writes_whole gamM.view f g) _).trans (congrArg g ?_)
  funext a
  fin_cases a <;> exact Fin.ext (by show 0 + 1 * _ = _; omega)

/-- A block's arithmetic over what was loaded for it. -/
theorem normed_loads (off : Fin 2 → ℕ) (inb : ∀ a, off a + S128x512.size a ≤ S512x512.size a) (r : Rect S4x128x512) (hr : ∀ a, r.stride a = 1)
    (hq : r.shape.Squeezes S128x512) (hc : r.shape.ShapeCasts S128x512) (fl : locM.view.ty.Contents (Elt F)) (fg : gamM.view.ty.Contents (Elt F))
    (x : Vec F S512x512 .f32) (y : Vec F S128x512 .bf16) (g : Vec F S1x512 .f32) :
    normed (locM.view.readAt (Elt F) (Rect.unit (s := S512x512) off S128x512.size inb).toLoadRect (locM.view.writes (Elt F) fl [⟨Rect.whole S512x512, x⟩]))
        (shapeCast S128x512 (recvM.view.readAt (Elt F) r.toLoadRect (((recvM.slice r hr).squeeze S128x512 hq).view.rep y)) hc)
        (gamM.view.readAt (Elt F) (Rect.unit (s := S1x512) ![0, 0] S1x512.size inb_S1x512_S1x512_0_0).toLoadRect (gamM.view.writes (Elt F) fg [⟨Rect.whole S1x512, g⟩]))
      = normed (fun j => x ((Rect.unit (s := S512x512) off S128x512.size inb).emb j)) y g := by
  rw [load_slot recvM r hr hq hc y, load_gamma, load_rows locM (Rect.unit (s := S512x512) off S128x512.size inb)]
  rfl

/-- Four stores, each of a block's rows, leave the blocks. -/
theorem read_result (c : Dev nD) (f : oM.view.ty.Contents (Elt F)) (w0 w1 w2 w3 : FVec F S128x512 .bf16)
    (h0 : w0 = blockOf V c 0) (h1 : w1 = blockOf V c 1) (h2 : w2 = blockOf V c 2) (h3 : w3 = blockOf V c 3) :
    oM.view.read (Elt F) (oM.view.writes (Elt F) f
      [⟨Rect.unit ![384, 0] S128x512.size inb_S512x512_S128x512_384_0, w3⟩, ⟨Rect.unit ![256, 0] S128x512.size inb_S512x512_S128x512_256_0, w2⟩,
        ⟨Rect.unit ![128, 0] S128x512.size inb_S512x512_S128x512_128_0, w1⟩, ⟨Rect.unit ![0, 0] S128x512.size inb_S512x512_S128x512_0_0, w0⟩])
      = result V c := by
  subst h0 h1 h2 h3
  funext i
  have hi : (i 0).val < 512 := (i 0).isLt
  have key (k : Fin 4) (hk : (i 0).val / 128 = k.val) : result V c i = blockOf V c k (within i) := by
    unfold result
    rw [show (⟨(i 0).val / 128, by omega⟩ : Fin 4) = k from Fin.ext hk]
  have hw : (within i 0).val = (i 0).val % 128 := rfl
  have hd (o : ℕ) (h : (i 0).val < o ∨ o + 128 ≤ (i 0).val) {off : Fin 2 → ℕ} (hoff : off = ![o, 0])
      (inb : ∀ a : Fin 2, off a + S128x512.size a ≤ (![512, 512] : Fin 2 → ℕ) a) (w) (L) :
      oM.view.read (Elt F) (oM.view.writes (Elt F) f (⟨Rect.unit (s := S512x512) off S128x512.size inb, w⟩ :: L)) i
        = oM.view.read (Elt F) (oM.view.writes (Elt F) f L) i :=
    View.read_writes_cons_rows_of_not_mem (W := 128) (o := o) oM.view f inb w L i hoff rfl h
  have hm (o : ℕ) (h : (i 0).val = o + (i 0).val % 128) {off : Fin 2 → ℕ} (hoff : off = ![o, 0])
      (inb : ∀ a : Fin 2, off a + S128x512.size a ≤ (![512, 512] : Fin 2 → ℕ) a) (w) (L) :
      oM.view.read (Elt F) (oM.view.writes (Elt F) f (⟨Rect.unit (s := S512x512) off S128x512.size inb, w⟩ :: L)) i = w (within i) :=
    View.read_writes_cons_rows_of_mem (o := o) oM.view f inb w L i (within i) hoff h rfl
  by_cases h3 : 384 ≤ (i 0).val
  · rw [key 3 (by show _ = 3; omega)]; exact hm 384 (by omega) rfl _ _ _
  refine (hd 384 (by omega) rfl _ _ _).trans ?_
  by_cases h2 : 256 ≤ (i 0).val
  · rw [key 2 (by show _ = 2; omega)]; exact hm 256 (by omega) rfl _ _ _
  refine (hd 256 (by omega) rfl _ _ _).trans ?_
  by_cases h1 : 128 ≤ (i 0).val
  · rw [key 1 (by show _ = 1; omega)]; exact hm 128 (by omega) rfl _ _ _
  refine (hd 128 (by omega) rfl _ _ _).trans ?_
  rw [key 0 (by show _ = 0; omega)]; exact hm 0 (by omega) rfl _ _ _

/-- What the body leaves: everything back at contents of its own, the result's buffer reading the result, every counter
    at zero, nothing owed. -/
def bodyPost (c : Dev nD) (q0 q1 q2 q3 q4 q5 : PosShare TreeShare) : sProp 𝕄 :=
  iprop(
    (part c (src0 c) q0 (V c main_arg0) ∗ part c (src1 c) q1 (V c main_arg0) ∗ part c (src2 c) q2 (V c main_arg0) ∗ part c (src3 c) q3 (V c main_arg0) ∗ part c (kept c) q4 (V c main_arg0) ∗ part c gM q5 (V c main_v1))
    ∗ (some' c (slot0 rawM) ∗ some' c (slot1 rawM) ∗ some' c (slot2 rawM) ∗ some' c (slot3 rawM))
    ∗ (some' c (slot0 sendM) ∗ some' c (slot1 sendM) ∗ some' c (slot2 sendM) ∗ some' c (slot3 sendM))
    ∗ (some' c (slot0 recvM) ∗ some' c (slot1 recvM) ∗ some' c (slot2 recvM) ∗ some' c (slot3 recvM))
    ∗ (some' c locM ∗ some' c gamM ∗ holds c oM (result V c))
    ∗ (semVal (ldCell c 0) 0 ∗ semVal (ldCell c 1) 0 ∗ semVal (ldCell c 2) 0 ∗ semVal (ldCell c 3) 0 ∗ semVal (ldCell c 4) 0 ∗ semVal (ldCell c 5) 0)
    ∗ (semVal (sendCell c 0) 0 ∗ semVal (sendCell c 1) 0 ∗ semVal (sendCell c 2) 0 ∗ semVal (sendCell c 3) 0)
    ∗ (semVal (recvCell c 0) 0 ∗ semVal (recvCell c 1) 0 ∗ semVal (recvCell c 2) 0 ∗ semVal (recvCell c 3) 0)
    ∗ semVal (barCell c) 0 ∗ ∃ W, owes (c : Thread nD τ) (0 : CellTallies nD τ sig Unit) W)

/-- A semaphore used its one time is back at zero. -/
theorem close (κ : ℕ) (g : GSem nD τ sig) :
    iprop(cellInv ER (talkRd V) κ g ∗ atPos ER g 1 ∅ 0) ⊢ (|={Set.univ}=> semVal g 0 : sProp 𝕄) :=
  Rounds.cell_close ER (talkRd V) (Set.mem_univ κ) id (duties_later V g)

set_option maxHeartbeats 4000000 in
/-- The run of the body on device `c`. -/
theorem bodyRun (K : GSem nD τ sig → ℕ) (c : Dev nD) (W : Waits sig Unit) (q0 q1 q2 q3 q4 q5 : PosShare TreeShare)
    (r0 r1 r2 r3 s0 s1 s2 s3 fl fg fo : _) (Q : PUnit → sProp 𝕄) :
    iprop((bodyPost V c q0 q1 q2 q3 q4 q5 -∗ Q ⟨⟩)
      ∗ (part c (src0 c) q0 (V c main_arg0) ∗ part c (src1 c) q1 (V c main_arg0) ∗ part c (src2 c) q2 (V c main_arg0) ∗ part c (src3 c) q3 (V c main_arg0) ∗ part c (kept c) q4 (V c main_arg0) ∗ part c gM q5 (V c main_v1))
      ∗ (win c (slot0 rawM) r0 ∗ win c (slot1 rawM) r1 ∗ win c (slot2 rawM) r2 ∗ win c (slot3 rawM) r3)
      ∗ (win c (slot0 sendM) s0 ∗ win c (slot1 sendM) s1 ∗ win c (slot2 sendM) s2 ∗ win c (slot3 sendM) s3)
      ∗ (win c locM fl ∗ win c gamM fg ∗ win c oM fo)
      ∗ (some' c (slot0 recvM) ∗ some' c (slot1 recvM) ∗ some' c (slot2 recvM) ∗ some' c (slot3 recvM))
      ∗ (semVal (ldCell c 0) 0 ∗ semVal (ldCell c 1) 0 ∗ semVal (ldCell c 2) 0 ∗ semVal (ldCell c 3) 0 ∗ semVal (ldCell c 4) 0 ∗ semVal (ldCell c 5) 0)
      ∗ levAts L lv ∗ owes (c : Thread nD τ) (O₀ c) W
      ∗ (cellInv ER (talkRd V) (K (barCell (mate c))) (barCell (mate c))
        ∗ cellInv ER (talkRd V) (K (recvCell (mate c) 0)) (recvCell (mate c) 0) ∗ cellInv ER (talkRd V) (K (recvCell (mate c) 1)) (recvCell (mate c) 1)
        ∗ cellInv ER (talkRd V) (K (recvCell (mate c) 2)) (recvCell (mate c) 2) ∗ cellInv ER (talkRd V) (K (recvCell (mate c) 3)) (recvCell (mate c) 3))
      ∗ (cellInv ER (talkRd V) (K (barCell c)) (barCell c)
        ∗ cellInv ER (talkRd V) (K (sendCell c 0)) (sendCell c 0) ∗ cellInv ER (talkRd V) (K (sendCell c 1)) (sendCell c 1)
        ∗ cellInv ER (talkRd V) (K (sendCell c 2)) (sendCell c 2) ∗ cellInv ER (talkRd V) (K (sendCell c 3)) (sendCell c 3)
        ∗ cellInv ER (talkRd V) (K (recvCell c 0)) (recvCell c 0) ∗ cellInv ER (talkRd V) (K (recvCell c 1)) (recvCell c 1)
        ∗ cellInv ER (talkRd V) (K (recvCell c 2)) (recvCell c 2) ∗ cellInv ER (talkRd V) (K (recvCell c 3)) (recvCell c 3))
      ∗ (atPos ER (barCell c) 0 ∅ 0
        ∗ (atPos ER (sendCell c 0) 0 ∅ 0 ∗ atPos ER (sendCell c 1) 0 ∅ 0 ∗ atPos ER (sendCell c 2) 0 ∅ 0 ∗ atPos ER (sendCell c 3) 0 ∅ 0)
        ∗ (atPos ER (recvCell c 0) 0 ∅ 0 ∗ atPos ER (recvCell c 1) 0 ∅ 0 ∗ atPos ER (recvCell c 2) 0 ∅ 0 ∗ atPos ER (recvCell c 3) 0 ∅ 0))
      ∗ (reached ER (barCell (mate c)) 0
        ∗ (reached ER (sendCell c 0) 0 ∗ reached ER (sendCell c 1) 0 ∗ reached ER (sendCell c 2) 0 ∗ reached ER (sendCell c 3) 0)
        ∗ (reached ER (recvCell c 0) 0 ∗ reached ER (recvCell c 1) 0 ∗ reached ER (recvCell c 2) 0 ∗ reached ER (recvCell c 3) 0))
      ∗ (dutyTok ER (barCell (mate c)) 0 ()
        ∗ (dutyTok ER (sendCell c 0) 0 () ∗ dutyTok ER (sendCell c 1) 0 () ∗ dutyTok ER (sendCell c 2) 0 () ∗ dutyTok ER (sendCell c 3) 0 ())
        ∗ (dutyTok ER (recvCell (mate c) 0) 0 () ∗ dutyTok ER (recvCell (mate c) 1) 0 () ∗ dutyTok ER (recvCell (mate c) 2) 0 () ∗ dutyTok ER (recvCell (mate c) 3) 0 ()))
      ∗ (cred (tallyAt (barCell c) () 1)
        ∗ cred (tallyAt (recvCell c 0) () N) ∗ cred (tallyAt (recvCell c 1) () N) ∗ cred (tallyAt (recvCell c 2) () N) ∗ cred (tallyAt (recvCell c 3) () N)))
      ⊢ wp frame (wpE (defs₀ (F := F)) 𝒱₀ c none) Set.univ (body (F := F)) Q := by
  iintro ⟨Hk, ⟨Hx0, Hx1, Hx2, Hx3, Hx4, Hg⟩, ⟨Hr0, Hr1, Hr2, Hr3⟩, ⟨Hs0, Hs1, Hs2, Hs3⟩, ⟨Hl, Hga, Ho⟩, ⟨Hv0, Hv1, Hv2, Hv3⟩,
    ⟨Hd0, Hd1, Hd2, Hd3, Hd4, Hd5⟩, #Hlev, HO, ⟨#Hib', #Hir0', #Hir1', #Hir2', #Hir3'⟩, ⟨#Hib, #His0, #His1, #His2, #His3, #Hir0, #Hir1, #Hir2, #Hir3⟩,
    ⟨Hab, ⟨Has0, Has1, Has2, Has3⟩, ⟨Har0, Har1, Har2, Har3⟩⟩, ⟨#Hrb, ⟨#Hrs0, #Hrs1, #Hrs2, #Hrs3⟩, ⟨#Hrr0, #Hrr1, #Hrr2, #Hrr3⟩⟩,
    ⟨Htb, ⟨Hts0, Hts1, Hts2, Hts3⟩, ⟨Htr0, Htr1, Htr2, Htr3⟩⟩, ⟨Hcb, Hcr0, Hcr1, Hcr2, Hcr3⟩⟩
  have hmw : ∀ s : DmaSem sig, s.val < 7 → ((levAts L lv : sProp 𝕄) ⊢ MayWait (c : Thread nD τ) (.dma s) () (OR c)) :=
    fun s hs => mayWait_low c (.dma s) (by show (if 11 ≤ s.val then 2 else 0) < 2; rw [if_neg (by omega)]; decide)
  have hd1 := dev1_mate c
  have hbar := mayWait_low (F := F) c (.reg barS) (by decide)
  unfold body
  unfold O₀
  sl_exec
  ihave Hs0 : holds c (slot0 sendM) (sent V c 0) $$ [Hs0]
  · iapply (holds_of_read c (slot0 sendM) (sent V c 0) _ ?_) $$ Hs0
    exact stored_slot sendM rawM _ (fun _ => rfl) _ _ _ _ _ _
  ihave Hs1 : holds c (slot1 sendM) (sent V c 1) $$ [Hs1]
  · iapply (holds_of_read c (slot1 sendM) (sent V c 1) _ ?_) $$ Hs1
    exact stored_slot sendM rawM _ (fun _ => rfl) _ _ _ _ _ _
  ihave Hs2 : holds c (slot2 sendM) (sent V c 2) $$ [Hs2]
  · iapply (holds_of_read c (slot2 sendM) (sent V c 2) _ ?_) $$ Hs2
    exact stored_slot sendM rawM _ (fun _ => rfl) _ _ _ _ _ _
  ihave Hs3 : holds c (slot3 sendM) (sent V c 3) $$ [Hs3]
  · iapply (holds_of_read c (slot3 sendM) (sent V c 3) _ ?_) $$ Hs3
    exact stored_slot sendM rawM _ (fun _ => rfl) _ _ _ _ _ _
  unfold some'
  icases Hab_pay1 with ⟨%g0, Hm0⟩
  icases Hab_pay2 with ⟨%g1, Hm1⟩
  icases Hab_pay3 with ⟨%g2, Hm2⟩
  icases Hab_pay4 with ⟨%g3, Hm3⟩
  have hp0 : holds (mate c) (slot0 recvM) (sent V c 0) ⊢ (talkRd V).payload (recvCell (mate c) 0) 0 () := by
    rw [payload_recv0, mate_mate]
  have hn0 : (slot0 recvM).view.amount (.dma (recvS 0)) = N := rfl
  have hps0 : (some' (F := F) c (slot0 sendM)) ⊢ (talkRd V).payload (sendCell c 0) 0 () := .rfl
  have hO0 : OR c = (tallyAt (recvCell (mate c) 3) () N + tallyAt (recvCell (mate c) 2) () N + tallyAt (recvCell (mate c) 1) () N) + tallyAt (recvCell (mate c) 0) () N := rfl
  have hp1 : holds (mate c) (slot1 recvM) (sent V c 1) ⊢ (talkRd V).payload (recvCell (mate c) 1) 0 () := by
    rw [payload_recv1, mate_mate]
  have hn1 : (slot1 recvM).view.amount (.dma (recvS 1)) = N := rfl
  have hps1 : (some' (F := F) c (slot1 sendM)) ⊢ (talkRd V).payload (sendCell c 1) 0 () := .rfl
  have hO1 : tallyAt (recvCell (mate c) 3) () N + tallyAt (recvCell (mate c) 2) () N + tallyAt (recvCell (mate c) 1) () N = (tallyAt (recvCell (mate c) 3) () N + tallyAt (recvCell (mate c) 2) () N) + tallyAt (recvCell (mate c) 1) () N := rfl
  have hp2 : holds (mate c) (slot2 recvM) (sent V c 2) ⊢ (talkRd V).payload (recvCell (mate c) 2) 0 () := by
    rw [payload_recv2, mate_mate]
  have hn2 : (slot2 recvM).view.amount (.dma (recvS 2)) = N := rfl
  have hps2 : (some' (F := F) c (slot2 sendM)) ⊢ (talkRd V).payload (sendCell c 2) 0 () := .rfl
  have hO2 : tallyAt (recvCell (mate c) 3) () N + tallyAt (recvCell (mate c) 2) () N = tallyAt (recvCell (mate c) 3) () N + tallyAt (recvCell (mate c) 2) () N := rfl
  have hp3 : holds (mate c) (slot3 recvM) (sent V c 3) ⊢ (talkRd V).payload (recvCell (mate c) 3) 0 () := by
    rw [payload_recv3, mate_mate]
  have hn3 : (slot3 recvM).view.amount (.dma (recvS 3)) = N := rfl
  have hps3 : (some' (F := F) c (slot3 sendM)) ⊢ (talkRd V).payload (sendCell c 3) 0 () := .rfl
  have hO3 : tallyAt (recvCell (mate c) 3) () N = 0 + tallyAt (recvCell (mate c) 3) () N := (zero_add _).symm
  iapply (send_slot V c _ ?_ 0 _ _ ?_ ?_ (K (sendCell c 0)) (K (recvCell (mate c) 0)) _ _ _ (sent V c 0) _
    ?_ ?_ ?_ _ _ hO0) $$ [Hs0 Hm0 HO Hts0 Htr0 Hab_pay5]
  · exact rfl
  · exact rfl
  · exact rfl
  · exact hps0
  · exact hp0
  · exact hn0
  · isplitr; · iexact His0
    isplitr; · iexact Hir0'
    isplitl [Hs0]; · iexact Hs0
    isplitl [Hm0]; · iexact Hm0
    isplitl [HO]; · iexact HO
    isplitl [Hts0]; · iexact Hts0
    isplitr; · iexact Hrs0
    isplitl [Htr0]; · iexact Htr0
    iexact Hab_pay5
  iintro ⟨Hc0, HO⟩
  sl_exec
  iapply (send_slot V c _ ?_ 1 _ _ ?_ ?_ (K (sendCell c 1)) (K (recvCell (mate c) 1)) _ _ _ (sent V c 1) _
    ?_ ?_ ?_ _ _ hO1) $$ [Hs1 Hm1 HO Hts1 Htr1 Hab_pay6]
  · exact rfl
  · exact rfl
  · exact rfl
  · exact hps1
  · exact hp1
  · exact hn1
  · isplitr; · iexact His1
    isplitr; · iexact Hir1'
    isplitl [Hs1]; · iexact Hs1
    isplitl [Hm1]; · iexact Hm1
    isplitl [HO]; · iexact HO
    isplitl [Hts1]; · iexact Hts1
    isplitr; · iexact Hrs1
    isplitl [Htr1]; · iexact Htr1
    iexact Hab_pay6
  iintro ⟨Hc1, HO⟩
  sl_exec
  iapply (send_slot V c _ ?_ 2 _ _ ?_ ?_ (K (sendCell c 2)) (K (recvCell (mate c) 2)) _ _ _ (sent V c 2) _
    ?_ ?_ ?_ _ _ hO2) $$ [Hs2 Hm2 HO Hts2 Htr2 Hab_pay7]
  · exact rfl
  · exact rfl
  · exact rfl
  · exact hps2
  · exact hp2
  · exact hn2
  · isplitr; · iexact His2
    isplitr; · iexact Hir2'
    isplitl [Hs2]; · iexact Hs2
    isplitl [Hm2]; · iexact Hm2
    isplitl [HO]; · iexact HO
    isplitl [Hts2]; · iexact Hts2
    isplitr; · iexact Hrs2
    isplitl [Htr2]; · iexact Htr2
    iexact Hab_pay7
  iintro ⟨Hc2, HO⟩
  sl_exec
  iapply (send_slot V c _ ?_ 3 _ _ ?_ ?_ (K (sendCell c 3)) (K (recvCell (mate c) 3)) _ _ _ (sent V c 3) _
    ?_ ?_ ?_ _ _ hO3) $$ [Hs3 Hm3 HO Hts3 Htr3 Hab_pay8]
  · exact rfl
  · exact rfl
  · exact rfl
  · exact hps3
  · exact hp3
  · exact hn3
  · isplitr; · iexact His3
    isplitr; · iexact Hir3'
    isplitl [Hs3]; · iexact Hs3
    isplitl [Hm3]; · iexact Hm3
    isplitl [HO]; · iexact HO
    isplitl [Hts3]; · iexact Hts3
    isplitr; · iexact Hrs3
    isplitl [Htr3]; · iexact Htr3
    iexact Hab_pay8
  iintro ⟨Hc3, HO⟩
  sl_exec
  ihave Ho : holds c oM (result V c) $$ [Ho]
  · iapply (holds_of_read c oM (result V c) _ ?_) $$ Ho
    refine read_result V c fo _ _ _ _ ?_ ?_ ?_ ?_
    · exact (pay_first _ _ _).trans (normed_loads _ _ _ (fun _ => rfl) _ _ _ _ _ _ _)
    · exact (pay_second _ _ _).trans (normed_loads _ _ _ (fun _ => rfl) _ _ _ _ _ _ _)
    · exact (pay_third _ _ _).trans (normed_loads _ _ _ (fun _ => rfl) _ _ _ _ _ _ _)
    · exact (pay_last _ _ _).trans (normed_loads _ _ _ (fun _ => rfl) _ _ _ _ _ _ _)
  rw [wp_ret]
  imod (close V (K (barCell c)) (barCell c)) $$ [Hab] with Hb0
  · isplitr; · iexact Hib
    iexact Hab
  imod (close V (K (sendCell c 0)) (sendCell c 0)) $$ [Has0] with Hsv0
  · isplitr; · iexact His0
    iexact Has0
  imod (close V (K (sendCell c 1)) (sendCell c 1)) $$ [Has1] with Hsv1
  · isplitr; · iexact His1
    iexact Has1
  imod (close V (K (sendCell c 2)) (sendCell c 2)) $$ [Has2] with Hsv2
  · isplitr; · iexact His2
    iexact Has2
  imod (close V (K (sendCell c 3)) (sendCell c 3)) $$ [Has3] with Hsv3
  · isplitr; · iexact His3
    iexact Has3
  imod (close V (K (recvCell c 0)) (recvCell c 0)) $$ [Har0] with Hrv0
  · isplitr; · iexact Hir0
    iexact Har0
  imod (close V (K (recvCell c 1)) (recvCell c 1)) $$ [Har1] with Hrv1
  · isplitr; · iexact Hir1
    iexact Har1
  imod (close V (K (recvCell c 2)) (recvCell c 2)) $$ [Har2] with Hrv2
  · isplitr; · iexact Hir2
    iexact Har2
  imod (close V (K (recvCell c 3)) (recvCell c 3)) $$ [Har3] with Hrv3
  · isplitr; · iexact Hir3
    iexact Har3
  imodintro
  iapply Hk
  unfold bodyPost
  isplitl [Hx0 Hx1 Hx2 Hx3 Hx4 Hg]
  · isplitl [Hx0]; · iexact Hx0
    isplitl [Hx1]; · iexact Hx1
    isplitl [Hx2]; · iexact Hx2
    isplitl [Hx3]; · iexact Hx3
    isplitl [Hx4]; · iexact Hx4
    iexact Hg
  isplitl [Hr0 Hr1 Hr2 Hr3]
  · isplitl [Hr0]; · iapply (some'_of c (slot0 rawM) _) $$ Hr0
    isplitl [Hr1]; · iapply (some'_of c (slot1 rawM) _) $$ Hr1
    isplitl [Hr2]; · iapply (some'_of c (slot2 rawM) _) $$ Hr2
    iapply (some'_of c (slot3 rawM) _) $$ Hr3
  isplitl [Has0_pay1 Has1_pay1 Has2_pay1 Has3_pay1]
  · isplitl [Has0_pay1]; · iexact Has0_pay1
    isplitl [Has1_pay1]; · iexact Has1_pay1
    isplitl [Has2_pay1]; · iexact Has2_pay1
    iexact Has3_pay1
  isplitl [Har0_pay1 Har1_pay1 Har2_pay1 Har3_pay1]
  · isplitl [Har0_pay1]; · iapply (some'_of c (slot0 recvM) _) $$ Har0_pay1
    isplitl [Har1_pay1]; · iapply (some'_of c (slot1 recvM) _) $$ Har1_pay1
    isplitl [Har2_pay1]; · iapply (some'_of c (slot2 recvM) _) $$ Har2_pay1
    iapply (some'_of c (slot3 recvM) _) $$ Har3_pay1
  isplitl [Hl Hga Ho]
  · isplitl [Hl]; · iapply (some'_of c locM _) $$ Hl
    isplitl [Hga]; · iapply (some'_of c gamM _) $$ Hga
    iexact Ho
  isplitl [Hd0 Hd1 Hd2 Hd3 Hd4 Hd5]
  · isplitl [Hd0]; · iexact Hd0
    isplitl [Hd1]; · iexact Hd1
    isplitl [Hd2]; · iexact Hd2
    isplitl [Hd3]; · iexact Hd3
    isplitl [Hd4]; · iexact Hd4
    iexact Hd5
  isplitl [Hsv0 Hsv1 Hsv2 Hsv3]
  · isplitl [Hsv0]; · iexact Hsv0
    isplitl [Hsv1]; · iexact Hsv1
    isplitl [Hsv2]; · iexact Hsv2
    iexact Hsv3
  isplitl [Hrv0 Hrv1 Hrv2 Hrv3]
  · isplitl [Hrv0]; · iexact Hrv0
    isplitl [Hrv1]; · iexact Hrv1
    isplitl [Hrv2]; · iexact Hrv2
    iexact Hrv3
  isplitl [Hb0]; · iexact Hb0
  iexists _; iexact HO

end Cert.KernelIdeal.Talk

end
-- ==== Proof.KernelIdealWhole.lean ====
/-
  The run of the body from whole buffers: the argument lent out in five shares and the buffers of four dealt into
  their slots before it, all of them put together again after it.
-/
module

public import proofs.«01_k».proof.Proof.KernelIdealBody
public import Idealize.ShloMosaic.Lib.Ring
public import Idealize.ShloMosaic.Lib.Transfers

@[expose] public section

set_option maxRecDepth 16384

noncomputable section

namespace Cert.KernelIdeal.Talk

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F))

/-! ## A buffer of four and its slots -/

theorem slot_inb (k : Fin 4) : ∀ a, (![k.val, 0, 0] : Fin 3 → ℕ) a + S1x128x512.size a ≤ S4x128x512.size a := by
  revert k; decide

/-- Where slot `k` lies. -/
def slotRect (k : Fin 4) : Rect S4x128x512 := Rect.unit (s := S4x128x512) ![k.val, 0, 0] S1x128x512.size (slot_inb k)

theorem mem_slotRect {k : Fin 4} {i : S4x128x512.Idx} : i ∈ (slotRect k).set ↔ (i 0).val = k.val := by
  unfold slotRect
  rw [Rect.mem_set_unit]
  constructor
  · intro h
    have h0 := h 0
    have e1 : (![k.val, 0, 0] : Fin 3 → ℕ) 0 = k.val := rfl
    have e2 : S1x128x512.size 0 = 1 := rfl
    rw [e1, e2] at h0
    omega
  · intro h a
    have h1 : (i 1).val < 128 := (i 1).isLt
    have h2 : (i 2).val < 512 := (i 2).isLt
    match a with
    | ⟨0, _⟩ => exact ⟨le_of_eq h.symm, by show (i 0).val < k.val + 1; omega⟩
    | ⟨1, _⟩ => exact ⟨Nat.zero_le _, by show (i 1).val < 0 + 128; omega⟩
    | ⟨2, _⟩ => exact ⟨Nat.zero_le _, by show (i 2).val < 0 + 512; omega⟩

section Slots

variable {e : EltTy} (M : Memref sig .tc .vmem S4x128x512 e)

/-- The elements of slot `k`. -/
def cells (k : Fin 4) : Finset M.view.ty.shape.Idx := (slotRect k).set.map M.view.emb

theorem cells_disjoint (b b' : Fin 4) (h : b ≠ b') : Disjoint (cells M b) (cells M b') := by
  unfold cells
  rw [Finset.disjoint_map, Finset.disjoint_left]
  intro i hi hi'
  rw [mem_slotRect] at hi hi'
  exact h (Fin.ext (hi.symm.trans hi'))

theorem cells_cover (hM : M.view.set = Finset.univ) : Finset.univ.biUnion (cells M) = Finset.univ := by
  refine Finset.eq_univ_iff_forall.mpr fun i => ?_
  have hi : i ∈ M.view.set := hM ▸ Finset.mem_univ i
  obtain ⟨j, rfl⟩ := View.exists_emb_of_mem_set _ hi
  exact Finset.mem_biUnion.mpr ⟨j 0, Finset.mem_univ _, Finset.mem_map_of_mem _ (mem_slotRect.mpr rfl)⟩

theorem set_slot0 : (slot0 M).view.set = cells M 0 := (Memref.set_view_squeeze _ _).trans (View.set_slice _ _)
theorem set_slot1 : (slot1 M).view.set = cells M 1 := (Memref.set_view_squeeze _ _).trans (View.set_slice _ _)
theorem set_slot2 : (slot2 M).view.set = cells M 2 := (Memref.set_view_squeeze _ _).trans (View.set_slice _ _)
theorem set_slot3 : (slot3 M).view.set = cells M 3 := (Memref.set_view_squeeze _ _).trans (View.set_slice _ _)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A buffer of four, slot by slot; -/
theorem deal (hM : M.view.set = Finset.univ) (c : Dev nD) (f : Buf (Elt F) (M.view.loc (c : Thread nD τ))) :
    (M.view.loc (c : Thread nD τ) ↦{fullShare} f : sProp 𝕄)
      ⊢ iprop(win c (slot0 M) f ∗ win c (slot1 M) f ∗ win c (slot2 M) f ∗ win c (slot3 M) f) := by
  refine Entails.of_eq ?_
  rw [Ring.pointsTo_blocks (cells M) (cells_disjoint M) (cells_cover M hM) f, bigSep_four]
  unfold win
  rw [set_slot0, set_slot1, set_slot2, set_slot3]

/-- and its slots, at contents of their own, as one buffer again. -/
theorem gather (hM : M.view.set = Finset.univ) (c : Dev nD) :
    iprop(some' c (slot0 M) ∗ some' c (slot1 M) ∗ some' c (slot2 M) ∗ some' c (slot3 M))
      ⊢ (iprop(∃ g : Buf (Elt F) (M.view.loc (c : Thread nD τ)), M.view.loc (c : Thread nD τ) ↦{fullShare} g) : sProp 𝕄) := by
  unfold some' win
  rw [set_slot0, set_slot1, set_slot2, set_slot3]
  iintro ⟨⟨%f0, H0⟩, H1, H2, H3⟩
  iapply (Ring.pointsTo_blocks_join_exists (cells M) (cells_disjoint M) (cells_cover M hM) f0)
  rw [bigSep_four]
  isplitl [H0]; · iexists f0; iexact H0
  isplitl [H1]; · iexact H1
  isplitl [H2]; · iexact H2
  iexact H3

end Slots

/-! ## Lending a share of a buffer to one of its pieces -/

theorem borrow (c : Dev nD) {sp : Space} {s : Shape} {e : EltTy} (m : Memref sig .tc sp s e) (q : PosShare TreeShare)
    (f : Buf (Elt F) (m.view.loc (c : Thread nD τ))) :
    (m.view.loc (c : Thread nD τ) ↦{q} f : sProp 𝕄) ⊢ iprop(part c m q f ∗ (part c m q f -∗ m.view.loc (c : Thread nD τ) ↦{q} f)) := by
  have h := pointsTo_split_subset (Ix := Unit) (Name := ℕ) (U := UU) (Lvl := ℕ) (ℓ := m.view.loc (c : Thread nD τ)) (q := q) (f := f) (Finset.subset_univ m.view.set)
  refine h.1.trans ?_
  iintro ⟨H, Hr⟩
  isplitl [H]; · iexact H
  iintro H
  iapply h.2
  isplitl [H] <;> iassumption

/-- The share of the argument piece `k` is copied from. -/
abbrev qs (k : Fin 5) : PosShare TreeShare := Transfers.shareTok fullShare 5 k

/-- The five pieces of the argument that are copied from, and the argument again for them. -/
theorem lend (c : Dev nD) (f : Buf (Elt F) ((c : Thread nD τ).loc main_arg0)) :
    ((c : Thread nD τ).loc main_arg0 ↦{fullShare} f : sProp 𝕄)
      ⊢ iprop((part c (src0 c) (qs 0) f ∗ part c (src1 c) (qs 1) f ∗ part c (src2 c) (qs 2) f ∗ part c (src3 c) (qs 3) f ∗ part c (kept c) (qs 4) f)
        ∗ ((part c (src0 c) (qs 0) f ∗ part c (src1 c) (qs 1) f ∗ part c (src2 c) (qs 2) f ∗ part c (src3 c) (qs 3) f ∗ part c (kept c) (qs 4) f)
          -∗ (c : Thread nD τ).loc main_arg0 ↦{fullShare} f)) := by
  refine (Transfers.pointsTo_toks_split fullShare 5).trans ?_
  rw [bigSep_five]
  iintro ⟨Hd, H0, H1, H2, H3, H4⟩
  ihave G0 := (borrow c (src0 c) (qs 0) f) $$ H0
  ihave G1 := (borrow c (src1 c) (qs 1) f) $$ H1
  ihave G2 := (borrow c (src2 c) (qs 2) f) $$ H2
  ihave G3 := (borrow c (src3 c) (qs 3) f) $$ H3
  ihave G4 := (borrow c (kept c) (qs 4) f) $$ H4
  icases G0 with ⟨P0, W0⟩
  icases G1 with ⟨P1, W1⟩
  icases G2 with ⟨P2, W2⟩
  icases G3 with ⟨P3, W3⟩
  icases G4 with ⟨P4, W4⟩
  isplitl [P0 P1 P2 P3 P4]
  · isplitl [P0]; · iexact P0
    isplitl [P1]; · iexact P1
    isplitl [P2]; · iexact P2
    isplitl [P3]; · iexact P3
    iexact P4
  iintro ⟨P0, P1, P2, P3, P4⟩
  iapply (Transfers.pointsTo_toks_join fullShare 5)
  rw [bigSep_five]
  isplitl [Hd]; · iexact Hd
  isplitl [P0 W0]; · iapply W0 $$ P0
  isplitl [P1 W1]; · iapply W1 $$ P1
  isplitl [P2 W2]; · iapply W2 $$ P2
  isplitl [P3 W3]; · iapply W3 $$ P3
  iapply W4 $$ P4

/-! ## The body from whole buffers -/

/-- The invariants a device consults. -/
def names (K : GSem nD τ sig → ℕ) (c : Dev nD) : sProp 𝕄 :=
  iprop((cellInv ER (talkRd V) (K (barCell (mate c))) (barCell (mate c))
        ∗ cellInv ER (talkRd V) (K (recvCell (mate c) 0)) (recvCell (mate c) 0) ∗ cellInv ER (talkRd V) (K (recvCell (mate c) 1)) (recvCell (mate c) 1)
        ∗ cellInv ER (talkRd V) (K (recvCell (mate c) 2)) (recvCell (mate c) 2) ∗ cellInv ER (talkRd V) (K (recvCell (mate c) 3)) (recvCell (mate c) 3))
      ∗ (cellInv ER (talkRd V) (K (barCell c)) (barCell c)
        ∗ cellInv ER (talkRd V) (K (sendCell c 0)) (sendCell c 0) ∗ cellInv ER (talkRd V) (K (sendCell c 1)) (sendCell c 1)
        ∗ cellInv ER (talkRd V) (K (sendCell c 2)) (sendCell c 2) ∗ cellInv ER (talkRd V) (K (sendCell c 3)) (sendCell c 3)
        ∗ cellInv ER (talkRd V) (K (recvCell c 0)) (recvCell c 0) ∗ cellInv ER (talkRd V) (K (recvCell c 1)) (recvCell c 1)
        ∗ cellInv ER (talkRd V) (K (recvCell c 2)) (recvCell c 2) ∗ cellInv ER (talkRd V) (K (recvCell c 3)) (recvCell c 3)))

instance names_persistent (K : GSem nD τ sig → ℕ) (c : Dev nD) : BI.Persistent (names V K c) := by unfold names; infer_instance

/-- Where a device stands at its own semaphores. -/
def stands (c : Dev nD) : sProp 𝕄 :=
  iprop(atPos ER (barCell c) 0 ∅ 0
        ∗ (atPos ER (sendCell c 0) 0 ∅ 0 ∗ atPos ER (sendCell c 1) 0 ∅ 0 ∗ atPos ER (sendCell c 2) 0 ∅ 0 ∗ atPos ER (sendCell c 3) 0 ∅ 0)
        ∗ (atPos ER (recvCell c 0) 0 ∅ 0 ∗ atPos ER (recvCell c 1) 0 ∅ 0 ∗ atPos ER (recvCell c 2) 0 ∅ 0 ∗ atPos ER (recvCell c 3) 0 ∅ 0))

/-- The semaphores whose first round is known to have come. -/
def ready (c : Dev nD) : sProp 𝕄 :=
  iprop(reached ER (barCell (mate c)) 0
        ∗ (reached ER (sendCell c 0) 0 ∗ reached ER (sendCell c 1) 0 ∗ reached ER (sendCell c 2) 0 ∗ reached ER (sendCell c 3) 0)
        ∗ (reached ER (recvCell c 0) 0 ∗ reached ER (recvCell c 1) 0 ∗ reached ER (recvCell c 2) 0 ∗ reached ER (recvCell c 3) 0))

/-- The work a device does: the signal, its departures, the mate's arrivals. -/
def tasks (c : Dev nD) : sProp 𝕄 :=
  iprop(dutyTok ER (barCell (mate c)) 0 ()
        ∗ (dutyTok ER (sendCell c 0) 0 () ∗ dutyTok ER (sendCell c 1) 0 () ∗ dutyTok ER (sendCell c 2) 0 () ∗ dutyTok ER (sendCell c 3) 0 ())
        ∗ (dutyTok ER (recvCell (mate c) 0) 0 () ∗ dutyTok ER (recvCell (mate c) 1) 0 () ∗ dutyTok ER (recvCell (mate c) 2) 0 () ∗ dutyTok ER (recvCell (mate c) 3) 0 ()))

/-- What a device may wait for from its mate. -/
def credits (c : Dev nD) : sProp 𝕄 :=
  iprop(cred (tallyAt (barCell c) () 1)
        ∗ cred (tallyAt (recvCell c 0) () N) ∗ cred (tallyAt (recvCell c 1) () N) ∗ cred (tallyAt (recvCell c 2) () N) ∗ cred (tallyAt (recvCell c 3) () N))

/-- Its counters of the copies within the device. -/
def loads (c : Dev nD) : sProp 𝕄 :=
  iprop(semVal (ldCell c 0) 0 ∗ semVal (ldCell c 1) 0 ∗ semVal (ldCell c 2) 0 ∗ semVal (ldCell c 3) 0 ∗ semVal (ldCell c 4) 0 ∗ semVal (ldCell c 5) 0)

/-- Its counters of the exchange. -/
def quiet (c : Dev nD) : sProp 𝕄 :=
  iprop((semVal (sendCell c 0) 0 ∗ semVal (sendCell c 1) 0 ∗ semVal (sendCell c 2) 0 ∗ semVal (sendCell c 3) 0)
    ∗ (semVal (recvCell c 0) 0 ∗ semVal (recvCell c 1) 0 ∗ semVal (recvCell c 2) 0 ∗ semVal (recvCell c 3) 0))

/-- Its scratch buffers, whole. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- The two buffers it reads, whole. -/
def inputs (c : Dev nD) : sProp 𝕄 :=
  iprop((((c : Thread nD τ).loc main_arg0) ↦{fullShare} V c main_arg0) ∗ (((c : Thread nD τ).loc main_v1) ↦{fullShare} V c main_v1))

/-- A memref of a whole buffer has its elements exactly when the buffer is held. -/
theorem win_whole (c : Dev nD) {sp : Space} {s : Shape} {e : EltTy} (m : Memref sig .tc sp s e) (hm : m.view.set = Finset.univ)
    (f : Buf (Elt F) (m.view.loc (c : Thread nD τ))) : (win c m f : sProp 𝕄) = (m.view.loc (c : Thread nD τ) ↦{fullShare} f) := by
  unfold win; rw [hm]

theorem some_whole (c : Dev nD) {sp : Space} {s : Shape} {e : EltTy} (m : Memref sig .tc sp s e) (hm : m.view.set = Finset.univ) :
    (some' c m : sProp 𝕄) ⊢ iprop(∃ g : Buf (Elt F) (m.view.loc (c : Thread nD τ)), m.view.loc (c : Thread nD τ) ↦{fullShare} g) := by
  unfold some' win; rw [hm]

/-- The run from whole buffers. -/
theorem wholeRun (K : GSem nD τ sig → ℕ) (c : Dev nD) (W : Waits sig Unit) (fo : Buf (Elt F) (oM.view.loc (c : Thread nD τ))) (Q : PUnit → sProp 𝕄) :
    iprop(((inputs V c ∗ scratch c ∗ loads c ∗ quiet c ∗ semVal (barCell c) 0 ∗ (oM.view.loc (c : Thread nD τ) ↦{fullShare} oM.view.rep (result V c))
          ∗ ∃ W, owes (c : Thread nD τ) (0 : CellTallies nD τ sig Unit) W) -∗ Q ⟨⟩)
        ∗ inputs V c ∗ scratch c ∗ loads c ∗ (oM.view.loc (c : Thread nD τ) ↦{fullShare} fo)
        ∗ levAts L lv ∗ owes (c : Thread nD τ) (O₀ c) W ∗ names V K c ∗ stands c ∗ ready c ∗ tasks c ∗ credits c)
      ⊢ wp frame (wpE (defs₀ (F := F)) 𝒱₀ c none) Set.univ (body (F := F)) Q := by
  have hset : ∀ b : Ref sig .tc, (View.whole b : View sig .tc _ _ _).set = Finset.univ := fun b => View.set_whole b
  unfold inputs scratch names loads stands ready tasks credits
  iintro ⟨Hk, ⟨Hx, Hg⟩, ⟨⟨%f0, Hraw⟩, ⟨%f1, Hloc⟩, ⟨%f2, Hsend⟩, ⟨%f3, Hrecv⟩, ⟨%f4, Hgam⟩⟩, Hld, Ho, Hlev, HO, ⟨HA, HB⟩, Hst, Hre, Hta, Hcr⟩
  ihave Hx' := (lend c (V c main_arg0)) $$ Hx
  icases Hx' with ⟨⟨P0, P1, P2, P3, P4⟩, Wx⟩
  ihave Hraw' := (deal rawM (hset _) c f0) $$ Hraw
  ihave Hsend' := (deal sendM (hset _) c f2) $$ Hsend
  ihave Hrecv' := (deal recvM (hset _) c f3) $$ Hrecv
  icases Hrecv' with ⟨V0, V1, V2, V3⟩
  iapply (bodyRun V K c W (qs 0) (qs 1) (qs 2) (qs 3) (qs 4) fullShare f0 f0 f0 f0 f2 f2 f2 f2 f1 f4 fo Q)
  isplitl [Hk Wx]
  · unfold bodyPost
    iintro ⟨⟨P0, P1, P2, P3, P4, Hg⟩, Hraw, Hsend, Hrecv, ⟨Hloc, Hgam, Ho⟩, Hld, Hs, Hr, Hb, HO⟩
    iapply Hk
    isplitl [P0 P1 P2 P3 P4 Hg Wx]
    · isplitr [Hg]
      · iapply Wx
        isplitl [P0]; · iexact P0
        isplitl [P1]; · iexact P1
        isplitl [P2]; · iexact P2
        isplitl [P3]; · iexact P3
        iexact P4
      · iapply (Entails.of_eq (win_whole c gM (hset _) _)) $$ Hg
    isplitl [Hraw Hsend Hrecv Hloc Hgam]
    · isplitl [Hraw]; · iapply (gather rawM (hset _) c) $$ Hraw
      isplitl [Hloc]; · iapply (some_whole c locM (hset _)) $$ Hloc
      isplitl [Hsend]; · iapply (gather sendM (hset _) c) $$ Hsend
      isplitl [Hrecv]; · iapply (gather recvM (hset _) c) $$ Hrecv
      iapply (some_whole c gamM (hset _)) $$ Hgam
    isplitl [Hld]; · iexact Hld
    isplitl [Hs Hr]; · unfold quiet; isplitl [Hs] <;> iassumption
    isplitl [Hb]; · iexact Hb
    isplitl [Ho]; · iapply (Entails.of_eq (win_whole c oM (hset _) _)) $$ Ho
    iexact HO
  isplitl [P0 P1 P2 P3 P4 Hg]
  · isplitl [P0]; · iexact P0
    isplitl [P1]; · iexact P1
    isplitl [P2]; · iexact P2
    isplitl [P3]; · iexact P3
    isplitl [P4]; · iexact P4
    iapply (Entails.of_eq (win_whole c gM (hset _) _).symm) $$ Hg
  isplitl [Hraw']; · iexact Hraw'
  isplitl [Hsend']; · iexact Hsend'
  isplitl [Hloc Hgam Ho]
  · isplitl [Hloc]; · iapply (Entails.of_eq (win_whole c locM (hset _) _).symm) $$ Hloc
    isplitl [Hgam]; · iapply (Entails.of_eq (win_whole c gamM (hset _) _).symm) $$ Hgam
    iapply (Entails.of_eq (win_whole c oM (hset _) _).symm) $$ Ho
  isplitl [V0 V1 V2 V3]
  · isplitl [V0]; · iapply (some'_of c (slot0 recvM) _) $$ V0
    isplitl [V1]; · iapply (some'_of c (slot1 recvM) _) $$ V1
    isplitl [V2]; · iapply (some'_of c (slot2 recvM) _) $$ V2
    iapply (some'_of c (slot3 recvM) _) $$ V3
  isplitl [Hld]; · iexact Hld
  isplitl [Hlev]; · iexact Hlev
  isplitl [HO]; · iexact HO
  isplitl [HA]; · iexact HA
  isplitl [HB]; · iexact HB
  isplitl [Hst]; · iexact Hst
  isplitl [Hre]; · iexact Hre
  isplitl [Hta]; · iexact Hta
  iexact Hcr

end Cert.KernelIdeal.Talk

end
-- ==== Proof.KernelIdealRegion.lean ====
/-
  The kernel's region of the program: what enters it, what it leaves, and its record for the launch.
-/
module

public import proofs.«01_k».proof.Proof.KernelIdealWhole
public import proofs.«01_k».proof.Proof.Gen.KernelIdeal.Points
public import Idealize.ShloMosaic.Lib.Pipeline.RegionTalk
public import Idealize.ShloMosaic.Lib.Pipeline.ValueKit

@[expose] public section

set_option maxRecDepth 16384

noncomputable section

namespace Cert.KernelIdeal.Talk

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The buffers of the program, before and after the region -/

/-- The buffers as launched, -/
def V₀ (c : Dev nD) : Valuation τ sig (Elt F) := fun b => m (c, b)
/-- as the region finds them, -/
def V₁ (c : Dev nD) : Valuation τ sig (Elt F) := StableHlo.after hostOps0 (V₀ m c)
/-- and as it leaves them. -/
def V₂ (c : Dev nD) : Valuation τ sig (Elt F) := Function.update (V₁ m c) (Proc.devRef .tc main_v2) (result (V₁ m) c)

theorem V₂_out (c : Dev nD) : V₂ m c main_v2 = result (V₁ m) c := Function.update_self _ _ _
theorem V₂_of_ne (c : Dev nD) (b : Ref sig .tc) (hb : b ≠ main_v2) : V₂ m c b = V₁ m c b :=
  Function.update_of_ne (StableHlo.devRef_ne_of_ne hb) _ _

/-- The two buffers the body reads, -/
def readBufs : Finset (DevRef τ sig) := {Proc.devRef .tc main_arg0, Proc.devRef .tc main_v1}
/-- the buffers beside the result, -/
def restBufs : Finset (DevRef τ sig) := {Proc.devRef .tc main_arg0, Proc.devRef .tc main_arg1, Proc.devRef .tc main_v1}
/-- and all of them. -/
def bufs : Finset (DevRef τ sig) := (StableHlo.tcRefs τ sig).filter fun b => ¬ b.isScoped

/-- Buffer `b` of device `c`, whole. -/
abbrev pt (c : Dev nD) (b : Ref sig .tc) (f : Buf (Elt F) ((c : Thread nD τ).loc b)) : sProp 𝕄 := ((c : Thread nD τ).loc b) ↦{fullShare} f

theorem readBufs_eq (c : Dev nD) (W : Valuation τ sig (Elt F)) :
    (StableHlo.held (c : Thread nD τ) readBufs W : sProp 𝕄) = iprop(pt c main_arg0 (W main_arg0) ∗ pt c main_v1 (W main_v1)) := by
  unfold StableHlo.held
  rw [bigSep_eq_bigSepL_of_eq [Proc.devRef .tc main_arg0, Proc.devRef .tc main_v1] (by decide) (by decide)]
  rfl
theorem restBufs_eq (c : Dev nD) (W : Valuation τ sig (Elt F)) :
    (StableHlo.held (c : Thread nD τ) restBufs W : sProp 𝕄)
      = iprop(pt c main_arg0 (W main_arg0) ∗ pt c main_arg1 (W main_arg1) ∗ pt c main_v1 (W main_v1)) := by
  unfold StableHlo.held
  rw [bigSep_eq_bigSepL_of_eq [Proc.devRef .tc main_arg0, Proc.devRef .tc main_arg1, Proc.devRef .tc main_v1] (by decide) (by decide)]
  rfl
theorem bufs_eq (c : Dev nD) (W : Valuation τ sig (Elt F)) :
    (StableHlo.held (c : Thread nD τ) bufs W : sProp 𝕄)
      = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl
theorem arrRefs_eq : Pipeline.arrRefs (τ := τ) spec0 = {Proc.devRef .tc main_v2} := by decide
theorem outBuf_eq (c : Dev nD) (W : Valuation τ sig (Elt F)) :
    (StableHlo.held (c : Thread nD τ) (Pipeline.arrRefs (τ := τ) spec0) W : sProp 𝕄) = pt c main_v2 (W main_v2) := by
  rw [arrRefs_eq]
  unfold StableHlo.held
  rw [BI.bigSep_singleton]

/-! ## The kernel's own semaphores -/

/-- The fourteen semaphores of the kernel: six for the copies within the device, eight for the exchange. -/
def osem : Fin 14 → SemLoc sig := fun k => .dma ⟨1 + k.val, by have := k.isLt; show 1 + k.val < 15; omega⟩

theorem osem_own : Pipeline.OwnSemFacts spec0 osem := by decide

theorem bigSep_fourteen (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

theorem ownSems_eq (c : Dev nD) : (Pipeline.ownSems0 osem c : sProp 𝕄)
    = iprop(semVal (ldCell c 0) 0 ∗ semVal (ldCell c 1) 0 ∗ semVal (ldCell c 2) 0 ∗ semVal (ldCell c 3) 0 ∗ semVal (ldCell c 4) 0 ∗ semVal (ldCell c 5) 0
      ∗ semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0) :=
  bigSep_fourteen (fun k : Fin 14 => (semVal ((c : Thread nD τ), osem k) 0 : sProp 𝕄))

/-! ## What enters the region and what leaves it -/

/-- What a device carries from the launch to the region: its invariants, where it stands at the barrier, the right to
    open its eight other semaphores, and the work it does. -/
def ghost (K : GSem nD τ sig → ℕ) (c : Dev nD) : sProp 𝕄 :=
  iprop(names (V₁ m) K c ∗ atPos ER (barCell c) 0 ∅ 0 ∗ reached ER (barCell (mate c)) 0
    ∗ (openTok ER (sendCell c 0) ∗ openTok ER (sendCell c 1) ∗ openTok ER (sendCell c 2) ∗ openTok ER (sendCell c 3)
      ∗ openTok ER (recvCell c 0) ∗ openTok ER (recvCell c 1) ∗ openTok ER (recvCell c 2) ∗ openTok ER (recvCell c 3))
    ∗ tasks c)

/-- The same with all nine of its semaphores open. -/
def opened (K : GSem nD τ sig → ℕ) (c : Dev nD) : sProp 𝕄 :=
  iprop(names (V₁ m) K c ∗ stands c ∗ ready c ∗ tasks c)

def Tk (c : Dev nD) : sProp 𝕄 := iprop((∃ K, ghost m K c) ∗ credits c)
def Xk (c : Dev nD) : sProp 𝕄 := iprop((∃ K, opened m K c) ∗ credits c ∗ loads c ∗ levAts L lv)
def Yk (c : Dev nD) : sProp 𝕄 := semVal (barCell c) 0

/-- At the region's entry the eight semaphores are opened. -/
theorem hopen (c : Dev nD) : iprop(Tk m c ∗ Pipeline.ownSems0 osem c ∗ levAts L lv) ⊢ (|={Set.univ}=> Xk m c : sProp 𝕄) := by
  rw [ownSems_eq]
  unfold Tk Xk ghost opened names
  iintro ⟨⟨⟨%K, ⟨#HA, #HIbar, #HIS0, #HIS1, #HIS2, #HIS3, #HIV0, #HIV1, #HIV2, #HIV3⟩, HatB, #HrB, ⟨HoS0, HoS1, HoS2, HoS3, HoV0, HoV1, HoV2, HoV3⟩, Htk⟩, Hcr⟩,
    ⟨Hl0, Hl1, Hl2, Hl3, Hl4, Hl5, HS0, HS1, HS2, HS3, HV0, HV1, HV2, HV3⟩, #Hlev⟩
  imod (Rounds.cell_open ER (talkRd (V₁ m)) (g := sendCell c 0) (Set.mem_univ (K (sendCell c 0)))) $$ [HoS0 HS0] with ⟨HatS0, #HrS0⟩
  · isplitr; · iexact HIS0
    isplitl [HoS0] <;> iassumption
  imod (Rounds.cell_open ER (talkRd (V₁ m)) (g := sendCell c 1) (Set.mem_univ (K (sendCell c 1)))) $$ [HoS1 HS1] with ⟨HatS1, #HrS1⟩
  · isplitr; · iexact HIS1
    isplitl [HoS1] <;> iassumption
  imod (Rounds.cell_open ER (talkRd (V₁ m)) (g := sendCell c 2) (Set.mem_univ (K (sendCell c 2)))) $$ [HoS2 HS2] with ⟨HatS2, #HrS2⟩
  · isplitr; · iexact HIS2
    isplitl [HoS2] <;> iassumption
  imod (Rounds.cell_open ER (talkRd (V₁ m)) (g := sendCell c 3) (Set.mem_univ (K (sendCell c 3)))) $$ [HoS3 HS3] with ⟨HatS3, #HrS3⟩
  · isplitr; · iexact HIS3
    isplitl [HoS3] <;> iassumption
  imod (Rounds.cell_open ER (talkRd (V₁ m)) (g := recvCell c 0) (Set.mem_univ (K (recvCell c 0)))) $$ [HoV0 HV0] with ⟨HatV0, #HrV0⟩
  · isplitr; · iexact HIV0
    isplitl [HoV0] <;> iassumption
  imod (Rounds.cell_open ER (talkRd (V₁ m)) (g := recvCell c 1) (Set.mem_univ (K (recvCell c 1)))) $$ [HoV1 HV1] with ⟨HatV1, #HrV1⟩
  · isplitr; · iexact HIV1
    isplitl [HoV1] <;> iassumption
  imod (Rounds.cell_open ER (talkRd (V₁ m)) (g := recvCell c 2) (Set.mem_univ (K (recvCell c 2)))) $$ [HoV2 HV2] with ⟨HatV2, #HrV2⟩
  · isplitr; · iexact HIV2
    isplitl [HoV2] <;> iassumption
  imod (Rounds.cell_open ER (talkRd (V₁ m)) (g := recvCell c 3) (Set.mem_univ (K (recvCell c 3)))) $$ [HoV3 HV3] with ⟨HatV3, #HrV3⟩
  · isplitr; · iexact HIV3
    isplitl [HoV3] <;> iassumption
  imodintro
  isplitl [HatB HatS0 HatS1 HatS2 HatS3 HatV0 HatV1 HatV2 HatV3 Htk]
  · iexists K
    isplitr
    · isplitr; · iexact HA
      isplitr; · iexact HIbar
      isplitr; · iexact HIS0
      isplitr; · iexact HIS1
      isplitr; · iexact HIS2
      isplitr; · iexact HIS3
      isplitr; · iexact HIV0
      isplitr; · iexact HIV1
      isplitr; · iexact HIV2
      iexact HIV3
    isplitl [HatB HatS0 HatS1 HatS2 HatS3 HatV0 HatV1 HatV2 HatV3]
    · unfold stands
      isplitl [HatB]; · iexact HatB
      isplitl [HatS0 HatS1 HatS2 HatS3]
      · isplitl [HatS0]; · iexact HatS0
        isplitl [HatS1]; · iexact HatS1
        isplitl [HatS2]; · iexact HatS2
        iexact HatS3
      isplitl [HatV0]; · iexact HatV0
      isplitl [HatV1]; · iexact HatV1
      isplitl [HatV2]; · iexact HatV2
      iexact HatV3
    isplitr
    · unfold ready
      isplitr; · iexact HrB
      isplitr
      · isplitr; · iexact HrS0
        isplitr; · iexact HrS1
        isplitr; · iexact HrS2
        iexact HrS3
      isplitr; · iexact HrV0
      isplitr; · iexact HrV1
      isplitr; · iexact HrV2
      iexact HrV3
    iexact Htk
  isplitl [Hcr]; · iexact Hcr
  isplitl [Hl0 Hl1 Hl2 Hl3 Hl4 Hl5]
  · unfold loads
    isplitl [Hl0]; · iexact Hl0
    isplitl [Hl1]; · iexact Hl1
    isplitl [Hl2]; · iexact Hl2
    isplitl [Hl3]; · iexact Hl3
    isplitl [Hl4]; · iexact Hl4
    iexact Hl5
  iexact Hlev

/-! ## The proof data -/

/-- Before the region's one point; -/
def before' (c : Dev nD) : sProp 𝕄 := iprop(Xk m c ∗ inputs (V₁ m) c ∗ scratch c ∗ ∃ r, prngReg c r)
/-- and after it. -/
def after' (c : Dev nD) : sProp 𝕄 := iprop(inputs (V₁ m) c ∗ scratch c ∗ loads c ∗ quiet c ∗ semVal (barCell c) 0 ∗ ∃ r, prngReg c r)

def dat (c : Dev nD) : Dat τ (Elt F) Unit ℕ UU ℕ cfg0 c where
  A w := match w with
    | ⟨0, _⟩ => V₁ m c main_v2
  after w _ := match w with
    | ⟨0, _⟩ => result (V₁ m) c
  Φ t := if t.val = 0 then before' m c else after' m c
  q _ := fullShare
  owed t := if t.val = 0 then O₀ c else 0

abbrev adm : (p : Fin 1) → (pcfgs (F := F) p).Adm := fun p => (cfgs p).toPCfg_adm
def pdats (_ : Fin 1) (c : Dev nD) : Dat τ (Elt F) Unit ℕ UU ℕ cfg0 c := dat m c

theorem owed_first (c : Dev nD) : (pdats m 0 c).owed 0 = O₀ c := by
  show (if ((0 : Fin (cfg0.N + 1)).val = 0) then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by decide)]

theorem phi_first (c : Dev nD) : (pdats m 0 c).Φ 0 = before' m c := by
  show (if ((0 : Fin (cfg0.N + 1)).val = 0) then before' m c else after' m c) = _; exact if_pos rfl
theorem phi_last (c : Dev nD) : (pdats m 0 c).Φ (Fin.last _) = after' m c := by
  show (if (Fin.last cfg0.N).val = 0 then before' m c else after' m c) = _
  rw [Fin.val_last, if_neg (by decide)]

theorem arr_first (c : Dev nD) (w : Fin cfg0.W) : (pdats m 0 c).arrAt w 0 = V₁ m c (Proc.devRef .tc (Pipeline.arrRef spec0 w)) := by
  obtain rfl : w = 0 := Subsingleton.elim _ _
  rfl
theorem arr_last (c : Dev nD) (w : Fin cfg0.W) : (pdats m 0 c).arrAt w cfg0.N = V₂ m c (Proc.devRef .tc (Pipeline.arrRef spec0 w)) := by
  obtain rfl : w = 0 := Subsingleton.elim _ _
  refine Eq.trans ?_ (V₂_out m c).symm
  refine Pipeline.Dat.arrAt_eq_of_after_last (dat := pdats m 0 c) (0 : Fin 1) t0_0 (by decide) (result (V₁ m) c) (fun j => ?_)
  rfl

/-! ## The body's obligation -/

theorem owes_into {O : CellTallies nD τ sig Unit} (c : Dev nD) (t : Fin (cfg0.N + 1)) (h : (dat m c).owed t = O) (W : Waits sig Unit) :
    (owes (c : Thread nD τ) O W : sProp 𝕄) ⊢ (dat m c).owesAt () t := by
  unfold Dat.owesAt Pipeline.owesWithin Dat.bound
  rw [h, show (dat m c).recorded t = Set.univ from rfl]
  iintro HO
  iexists W
  isplitr; · ipureintro; exact fun _ _ => Or.inl trivial
  iexact HO

theorem owes_out {O : CellTallies nD τ sig Unit} (c : Dev nD) (t : Fin (cfg0.N + 1)) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

theorem owns_rep (c : Dev nD) {s : Shape} {e : EltTy} {sp : Space} (b : Memref sig .tc sp s e) (X : Vec F s e) :
    (b.view.loc (c : Thread nD τ) ↦[b.view.set]{fullShare} b.view.rep X : sProp 𝕄) ⊢ owns c b fullShare X := by
  unfold owns
  iintro H
  iexists (b.view.rep X)
  isplitr; · ipureintro; exact View.read_rep ..
  iexact H

theorem staged (c : Dev nD) : (oM.view.loc (c : Thread nD τ) ↦{fullShare} oM.view.rep (result (V₁ m) c) : sProp 𝕄)
    ⊢ owns c ((cfg0.win 0).stage (cfg0.slots t0_0 0)) fullShare ((dat m c).after 0 t0_0) := by
  have h := owns_rep (F := F) c oM (result (V₁ m) c)
  rw [show oM.view.set = Finset.univ from View.set_whole _] at h
  exact h

theorem owns_any (c : Dev nD) {s : Shape} {e : EltTy} {sp : Space} (b : Memref sig .tc sp s e) (X : Vec F s e) :
    (owns c b fullShare X : sProp 𝕄) ⊢ iprop(∃ f : Buf (Elt F) (b.view.loc (c : Thread nD τ)), b.view.loc (c : Thread nD τ) ↦[b.view.set]{fullShare} f) := by
  unfold owns
  iintro ⟨%f, -, H⟩
  iexists f
  iexact H

theorem unstaged (c : Dev nD) (d : Vec F S512x512 .bf16) : (owns c ((cfg0.win 0).stage (cfg0.slots t0_0 0)) fullShare ((dat m c).before 0 t0_0 d) : sProp 𝕄)
    ⊢ iprop(∃ f : Buf (Elt F) (oM.view.loc (c : Thread nD τ)), oM.view.loc (c : Thread nD τ) ↦{fullShare} f) := by
  have h := owns_any (F := F) c oM ((dat m c).before 0 t0_0 d)
  rw [show oM.view.set = Finset.univ from View.set_whole _] at h
  exact h

theorem bodyOk (c : Dev nD) : BodyObligation (dat m c) defs₀ 𝒱₀ () Set.univ := fun t => by
  obtain rfl := fin_N0 t
  rw [bigSep_W0, bigSep_W0]
  rw [show (dat m c).Φ (t0_0).castSucc = before' m c from rfl, show (dat m c).Φ (t0_0).succ = after' m c from rfl]
  unfold before' after' Xk opened
  iintro ⟨⟨⟨⟨%K, Hn, Hst, Hre, Hta⟩, Hcr, Hld, Hlev⟩, Hin, Hsc, Hp⟩, HO, ⟨%d, Ho⟩⟩
  ihave HO' := (owes_out m c (t0_0).castSucc (owed_first m c)) $$ HO
  icases HO' with ⟨%W, HO⟩
  ihave Ho' := (unstaged m c d) $$ Ho
  icases Ho' with ⟨%fo, Ho⟩
  iapply (wholeRun (V₁ m) K c W fo _)
  isplitl [Hp]
  · iintro ⟨Hin, Hsc, Hld, Hq, Hb, Ho, ⟨%W', HO⟩⟩
    isplitr [HO Ho]
    · isplitl [Hin]; · iexact Hin
      isplitl [Hsc]; · iexact Hsc
      isplitl [Hld]; · iexact Hld
      isplitl [Hq]; · iexact Hq
      isplitl [Hb]; · iexact Hb
      iexact Hp
    isplitl [HO]; · iapply (owes_into m c (t0_0).succ (owed_last m c) W'); iexact HO
    iapply (staged m c) $$ Ho
  isplitl [Hin]; · iexact Hin
  isplitl [Hsc]; · iexact Hsc
  isplitl [Hld]; · iexact Hld
  isplitl [Ho]; · iexact Ho
  isplitl [Hlev]; · iexact Hlev
  isplitl [HO]; · iexact HO
  isplitl [Hn]; · iexact Hn
  isplitl [Hst]; · iexact Hst
  isplitl [Hre]; · iexact Hre
  isplitl [Hta]; · iexact Hta
  iexact Hcr

/-! ## The region's record -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem region_in (c : Dev nD) : iprop(Pipeline.scopedRest (Pipeline.pin (pcfgs (F := F)) adm 0).spec c ∗ (∃ r, prngReg c r)
    ∗ StableHlo.held (c.tc : Thread nD τ) readBufs (V₁ m c) ∗ Xk m c) ⊢ (pdats m 0 c).Φ 0 := by
  rw [phi_first, show (Pipeline.pin (pcfgs (F := F)) adm 0).spec = spec0 from rfl, scopedRest0_eq, readBufs_eq]
  unfold before' inputs scratch
  iintro ⟨Hs, Hp, Hr, HX⟩
  isplitl [HX]; · iexact HX
  isplitl [Hr]; · iexact Hr
  isplitl [Hs]; · iexact Hs
  iexact Hp

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) readBufs (V₂ m c) ∗ Pipeline.ownSems0 osem c ∗ Yk c) := by
  rw [show (pdats m 0 c).Φ (Fin.last (Pipeline.pin (pcfgs (F := F)) adm 0).N) = after' m c from phi_last m c,
    show (Pipeline.pin (pcfgs (F := F)) adm 0).spec = spec0 from rfl, scopedRest0_eq, readBufs_eq, ownSems_eq,
    V₂_of_ne m c main_arg0 (by decide), V₂_of_ne m c main_v1 (by decide)]
  unfold after' inputs scratch loads quiet Yk
  iintro ⟨Hr, Hs, ⟨Hl0, Hl1, Hl2, Hl3, Hl4, Hl5⟩, ⟨⟨HS0, HS1, HS2, HS3⟩, ⟨HV0, HV1, HV2, HV3⟩⟩, Hb, Hp⟩
  isplitl [Hs]; · iexact Hs
  isplitl [Hp]; · iexact Hp
  isplitl [Hr]; · iexact Hr
  isplitr [Hb]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [HS0]; · iexact HS0
    isplitl [HS1]; · iexact HS1
    isplitl [HS2]; · iexact HS2
    isplitl [HS3]; · iexact HS3
    isplitl [HV0]; · iexact HV0
    isplitl [HV1]; · iexact HV1
    isplitl [HV2]; · iexact HV2
    iexact HV3
  iexact Hb

/-- What is owed is above what the pipeline's own copies wait on. -/
theorem owed_above (c : Dev nD) (t : Fin (cfg0.N + 1)) (g : GSem nD τ sig) (u : Unit) (h : 0 < (pdats m 0 c).owed t g u) : u ∈ L g ∧ 0 < lv g u := by
  have h' : 0 < (if t.val = 0 then O₀ c else 0) g u := h
  by_cases ht : t.val = 0
  · rw [if_pos ht] at h'
    rcases O₀_pos h' with ⟨k, rfl⟩ | rfl
    · refine ⟨?_, ?_⟩
      · rw [L_tc]; exact Finset.mem_singleton_self _
      · rw [lv_recv]; decide
    · refine ⟨?_, ?_⟩
      · rw [L_tc]; exact Finset.mem_singleton_self _
      · show 0 < 1; decide
  · rw [if_neg ht] at h'
    exact absurd h' (Nat.lt_irrefl 0)

theorem read_sub : readBufs ⊆ restBufs := by decide

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_own
    readBufs restBufs read_sub kit rfl (fun c => (bodyOk m c).loose)
    (fun _ => 0) O₀ (fun c => (owed_first m c).trans (zero_add _).symm) (owed_last m) (fun _ => rfl) (fun _ w => by obtain rfl : w = 0 := Subsingleton.elim _ _; rfl)
    (V₁ m) (V₂ m) (fun c b hb => by
      have hb' : b = Proc.devRef .tc main_arg1 := by revert hb; revert b; decide
      subst hb'
      exact (V₂_of_ne m c main_arg1 (by decide)).symm)
    (Tk m) Yk (Xk m) Yk (hopen m) (region_in m) (region_out m)
    (fun c => by iintro H; imodintro; iexact H)
    (fun _ => 0)
    ⟨fun c w s => by rw [L_tc]; exact Finset.mem_singleton_self _, fun c w => by obtain rfl : w = 0 := Subsingleton.elim _ _; exact fun s => Nat.le_refl 0, fun c t g i h => owed_above m c t g i h⟩
    (fun _ => iprop(emp))
    (arr_first m) (arr_last m)

end Cert.KernelIdeal.Talk

end
-- ==== Proof.KernelIdealLaunch.lean ====
/-
  The run of the program on all devices: the exchange set up at the launch, and what every finished run leaves.
-/
module

public import proofs.«01_k».proof.Proof.KernelIdealRegion
public import proofs.«01_k».proof.Proof.Gen.KernelIdeal.Frame
public import Idealize.ShloMosaic.Harness.Basic

@[expose] public section

set_option maxRecDepth 16384

noncomputable section

namespace Cert.KernelIdeal.Talk

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ)

/-! ## The two segments of the program -/

/-- What a device holds of the exchange before its region. -/
def start (c : Dev nD) : sProp 𝕄 := iprop((∃ K, ghost m K c) ∗ credits c ∗ ∃ r, prngReg c r)
/-- What rides past the host's operation. -/
def riding (c : Dev nD) : sProp 𝕄 := iprop(start m c ∗ ∃ W, owes (c : Thread nD τ) (O₀ c) W)

theorem ops_bufs : ∀ op ∈ (hostOps0 : List (HloOp τ sig (Elt F))), op.bufs ⊆ bufs := fun op h => by
  rw [List.mem_singleton.mp h]
  show ({Proc.devRef .tc main_arg1, Proc.devRef .tc main_v1} : Finset (DevRef τ sig)) ⊆ bufs
  decide
theorem ops_fresh : ∀ op ∈ (hostOps0 : List (HloOp τ sig (Elt F))), op.fresh = ∅ := fun op h => by
  rw [List.mem_singleton.mp h]; rfl

def host : Pipeline.HostSeg (Name := ℕ) (U := UU) (pcfgs (F := F)) defs₀ 𝒱₀ L lv :=
  Pipeline.HostSeg.ofOps _ _ _ _ _ bufs hostOps0 ops_bufs ops_fresh (V₀ m) (riding m)

theorem region_pre (c : Dev nD) : iprop(StableHlo.held (c : Thread nD τ) bufs (V₁ m c) ∗ riding m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) restBufs (V₁ m c) ∗ emp) ∗ Tk m c ∗ ∃ Wd, owes (c : Thread nD τ) (0 + O₀ c) Wd)
  rw [outBuf_eq, restBufs_eq, bufs_eq, zero_add]
  unfold riding start Tk
  iintro ⟨⟨H0, H1, Hv, Ho⟩, ⟨HK, Hcr, Hp⟩, HO⟩
  isplitl [Ho]; · iexact Ho
  isplitl [Hp]; · iexact Hp
  isplitl [H0 H1 Hv]
  · isplitl [H0 H1 Hv]
    · isplitl [H0]; · iexact H0
      isplitl [H1] <;> iassumption
    iempintro
  isplitl [HK Hcr]
  · isplitl [HK] <;> iassumption
  iexact HO

theorem region_post (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) restBufs (V₂ m c) ∗ emp) ∗ Yk c ∗ ∃ Wd, owes (c : Thread nD τ) (0 : CellTallies nD τ sig Unit) Wd) ⊢ _
  rw [outBuf_eq, restBufs_eq, bufs_eq]
  unfold Yk
  iintro ⟨Ho, -, ⟨⟨H0, H1, Hv⟩, -⟩, Hb, HO⟩
  isplitr [HO]
  · isplitr [Hb]
    · isplitl [H0]; · iexact H0
      isplitl [H1]; · iexact H1
      isplitl [Hv] <;> iassumption
    iexact Hb
  iexact HO

def segs : List (Pipeline.Seg (pcfgs (F := F)) adm (pdats m) () defs₀ 𝒱₀ L lv) := [.host (host m), .region (reg m)]

/-! ## The cells of the exchange, and who does what at them -/

/-- A semaphore of the kernel, told apart by its device and its number. -/
def cellEmb (n : ℕ) (s : Fin n → SemLoc sig) (hs : Function.Injective s) : Dev nD × Fin n ↪ GSem nD τ sig :=
  ⟨fun ck => ((ck.1 : Thread nD τ), s ck.2), fun _ _ h => Prod.ext (congrArg (fun g : GSem nD τ sig => g.1.1) h) (hs (congrArg Prod.snd h))⟩

/-- The eight semaphores of the copies between devices. -/
def xsem : Fin 8 → SemLoc sig := fun k => .dma ⟨7 + k.val, by have := k.isLt; show 7 + k.val < 15; omega⟩
theorem xsem_inj : Function.Injective xsem := by decide
theorem xsem_ne_bar : ∀ k, xsem k ≠ .reg barS := by decide

def barEmb : Dev nD ↪ GSem nD τ sig := ⟨fun c => barCell c, fun _ _ h => congrArg (fun g : GSem nD τ sig => g.1.1) h⟩
abbrev xEmb : Dev nD × Fin 8 ↪ GSem nD τ sig := cellEmb 8 xsem xsem_inj

abbrev barCells : Finset (GSem nD τ sig) := Finset.univ.map barEmb
abbrev xCells : Finset (GSem nD τ sig) := Finset.univ.map xEmb

theorem cells_apart : Disjoint (barCells : Finset (GSem nD τ sig)) xCells := by
  refine Finset.disjoint_left.mpr fun g h₁ h₂ => ?_
  obtain ⟨c, -, rfl⟩ := Finset.mem_map.mp h₁
  obtain ⟨ck, -, h⟩ := Finset.mem_map.mp h₂
  exact xsem_ne_bar ck.2 (congrArg Prod.snd h)

theorem mem_bar (c : Dev nD) : barCell c ∈ (barCells ∪ xCells : Finset (GSem nD τ sig)) :=
  Finset.mem_union_left _ (Finset.mem_map_of_mem barEmb (Finset.mem_univ c))
theorem mem_x (c : Dev nD) (k : Fin 8) : ((c : Thread nD τ), xsem k) ∈ (barCells ∪ xCells : Finset (GSem nD τ sig)) :=
  Finset.mem_union_right _ (Finset.mem_map_of_mem xEmb (Finset.mem_univ (c, k)))

/-- Each device's nine tasks: the signal to its mate, its four departures, its mate's four arrivals. Whose semaphore, -/
def whose : Fin 9 → Dev nD → Dev nD
  | 0 => mate | 1 => id | 2 => id | 3 => id | 4 => id | 5 => mate | 6 => mate | 7 => mate | 8 => mate
/-- and which one. -/
def which : Fin 9 → SemLoc sig
  | 0 => .reg barS | 1 => .dma (sendS 0) | 2 => .dma (sendS 1) | 3 => .dma (sendS 2) | 4 => .dma (sendS 3)
  | 5 => .dma (recvS 0) | 6 => .dma (recvS 1) | 7 => .dma (recvS 2) | 8 => .dma (recvS 3)

theorem whose_inj : ∀ k c d, whose k c = whose k d → c = d := by decide
theorem which_inj : Function.Injective which := by decide

def tokEmb : Dev nD × Fin 9 ↪ GSem nD τ sig × ℕ × Unit :=
  ⟨fun ck => (((whose ck.2 ck.1 : Thread nD τ), which ck.2), 0, ()), fun a b h => by
    obtain ⟨c, k⟩ := a; obtain ⟨d, l⟩ := b
    have hk : k = l := which_inj (congrArg (fun t : GSem nD τ sig × ℕ × Unit => t.1.2) h)
    subst hk
    have hc : c = d := whose_inj k c d (congrArg (fun t : GSem nD τ sig × ℕ × Unit => t.1.1.1) h)
    rw [hc]⟩
def toks : Finset (GSem nD τ sig × ℕ × Unit) := Finset.univ.map tokEmb

theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- One device's tasks, in the order they are numbered. -/
theorem nine_tasks (c : Dev nD) : iprop(dutyTok ER (barCell (mate c)) 0 () ∗ dutyTok ER (sendCell c 0) 0 () ∗ dutyTok ER (sendCell c 1) 0 ()
      ∗ dutyTok ER (sendCell c 2) 0 () ∗ dutyTok ER (sendCell c 3) 0 () ∗ dutyTok ER (recvCell (mate c) 0) 0 () ∗ dutyTok ER (recvCell (mate c) 1) 0 ()
      ∗ dutyTok ER (recvCell (mate c) 2) 0 () ∗ dutyTok ER (recvCell (mate c) 3) 0 ()) ⊢ (tasks c : sProp 𝕄) := by
  unfold tasks
  iintro ⟨H0, H1, H2, H3, H4, H5, H6, H7, H8⟩
  isplitl [H0]; · iexact H0
  isplitl [H1 H2 H3 H4]
  · isplitl [H1]; · iexact H1
    isplitl [H2]; · iexact H2
    isplitl [H3]; · iexact H3
    iexact H4
  isplitl [H5]; · iexact H5
  isplitl [H6]; · iexact H6
  isplitl [H7]; · iexact H7
  iexact H8

/-- The tasks, device by device. -/
theorem toks_dealt : bigSep toks (fun x => (dutyTok ER x.1 x.2.1 x.2.2 : sProp 𝕄)) ⊢ bigSep Finset.univ fun c : Dev nD => tasks c := by
  have hone (c : Dev nD) : (bigSep Finset.univ fun k : Fin 9 => (dutyTok ER ((whose k c : Thread nD τ), which k) 0 () : sProp 𝕄)) ⊢ tasks c := by
    rw [bigSep_nine]
    exact nine_tasks c
  unfold toks
  rw [bigSep_map, bigSep_univ_prod]
  exact bigSep_mono fun c _ => hone c

/-- The right to open a device's eight semaphores. -/
def keys (c : Dev nD) : sProp 𝕄 :=
  iprop(openTok ER (sendCell c 0) ∗ openTok ER (sendCell c 1) ∗ openTok ER (sendCell c 2) ∗ openTok ER (sendCell c 3)
      ∗ openTok ER (recvCell c 0) ∗ openTok ER (recvCell c 1) ∗ openTok ER (recvCell c 2) ∗ openTok ER (recvCell c 3))

theorem keys_dealt : bigSep xCells (fun g => (openTok ER g : sProp 𝕄)) ⊢ bigSep Finset.univ fun c : Dev nD => keys c := by
  rw [bigSep_map, bigSep_univ_prod]
  refine bigSep_mono fun c _ => ?_
  rw [bigSep_eight]
  exact BI.Entails.refl _

/-! ## What may be waited for at the launch -/

/-- One summand of what device `d` owes, at a semaphore of device `c`. -/
theorem owed_at (d c : Dev nD) (s s' : SemLoc sig) (n : ℕ) :
    (tallyAt ((mate d : Thread nD τ), s) () n : CellTallies nD τ sig Unit) ((c : Thread nD τ), s') () = if s' = s then (if d = mate c then n else 0) else 0 := by
  rw [tallyAt_apply]
  by_cases hs : s' = s
  · subst hs
    rw [if_pos rfl]
    by_cases h : d = mate c
    · subst h; rw [mate_mate, if_pos ⟨rfl, rfl⟩, if_pos rfl]
    · rw [if_neg h, if_neg]
      rintro ⟨h', -⟩
      have h'' : c = mate d := congrArg (fun g : GSem nD τ sig => g.1.1) h'
      exact h (by rw [h'', mate_mate])
  · rw [if_neg hs, if_neg]
    rintro ⟨h', -⟩
    exact hs (congrArg Prod.snd h')

/-- How much of a semaphore's count its device's mate owes. -/
def due (s : SemLoc sig) : ℕ :=
  (if s = .dma (recvS 3) then N else 0) + (if s = .dma (recvS 2) then N else 0) + (if s = .dma (recvS 1) then N else 0)
    + (if s = .dma (recvS 0) then N else 0) + (if s = .reg barS then 1 else 0)

theorem owed_due (d c : Dev nD) (s : SemLoc sig) : O₀ d ((c : Thread nD τ), s) () = if d = mate c then due s else 0 := by
  unfold O₀ OR due
  simp only [Pi.add_apply, Finsupp.add_apply]
  rw [owed_at, owed_at, owed_at, owed_at, owed_at]
  by_cases h : d = mate c
  · simp only [if_pos h]
  · simp only [if_neg h, ite_self, Nat.add_zero]

theorem launch_due (c : Dev nD) (s : SemLoc sig) :
    tallyOn ((c : Thread nD τ), s) (launchCredit (Pipeline.owing O₀) 0 ((c : Thread nD τ), s)) = (tallyAt ((c : Thread nD τ), s) () (due s) : CellTallies nD τ sig Unit) := by
  unfold tallyAt
  refine congrArg _ (Finsupp.ext fun u => ?_)
  cases u
  rw [Pipeline.launchCredit_owing, Finsupp.single_eq_same, Finset.sum_congr rfl fun d _ => owed_due d c s,
    Finset.sum_ite_eq' Finset.univ (mate c) fun _ => due s, if_pos (Finset.mem_univ _)]

theorem due_bar : due (.reg barS) = 1 := by
  unfold due
  simp only [reduceCtorEq, if_false, if_true, Nat.zero_add]
theorem due_recv : ∀ k : Fin 4, due (.dma (recvS k)) = N := by
  have h : ∀ k l : Fin 4, ((SemLoc.dma (recvS k) : SemLoc sig) = .dma (recvS l)) ↔ k = l := by decide
  intro k
  unfold due
  simp only [h, reduceCtorEq, if_false, Nat.add_zero]
  revert k
  intro k
  obtain rfl | rfl | rfl | rfl : k = 0 ∨ k = 1 ∨ k = 2 ∨ k = 3 := by revert k; decide
  all_goals simp

theorem credits_launched (c : Dev nD) : (Pipeline.launchCred O₀ c : sProp 𝕄) ⊢ credits c := by
  unfold Pipeline.launchCred
  refine (bigSep_subset (t := {SemLoc.reg barS, .dma (recvS 0), .dma (recvS 1), .dma (recvS 2), .dma (recvS 3)}) (Finset.subset_univ _)).trans ?_
  rw [bigSep_eq_bigSepL_of_eq [SemLoc.reg barS, .dma (recvS 0), .dma (recvS 1), .dma (recvS 2), .dma (recvS 3)] (by decide) (by decide)]
  unfold credits
  show iprop(cred (tallyOn _ _) ∗ cred (tallyOn _ _) ∗ cred (tallyOn _ _) ∗ cred (tallyOn _ _) ∗ cred (tallyOn _ _)) ⊢ _
  rw [launch_due, launch_due, launch_due, launch_due, launch_due, due_bar, due_recv, due_recv, due_recv, due_recv]

/-! ## The launch -/

theorem unscoped_held (c : Dev nD) : (unscopedBufs c (fun b => m ((c : Thread nD τ).loc b)) : sProp 𝕄) = StableHlo.held (c : Thread nD τ) bufs (V₀ m c) := by
  unfold unscopedBufs StableHlo.held bufs StableHlo.tcRefs
  rw [Finset.filter_map, BI.bigSep_map]
  rfl

theorem unscoped_sem : ∀ s : SemLoc sig, s.isScoped .tc = false → s = .reg barS := by decide
theorem unscoped_sems (c : Dev nD) : (unscopedSems0 c : sProp 𝕄) = semVal (barCell c) 0 := by
  unfold unscopedSems0
  rw [show (Finset.univ.filter fun s : SemLoc sig => ¬ s.isScoped .tc) = {SemLoc.reg barS} from by decide, BI.bigSep_singleton]

/-- The exchange's part of the launch, all on one device until it is dealt out. -/
def fund (c : Dev nD) : sProp 𝕄 := if c = 0 then BI.own (ER (launchOf barCells xCells toks)) else iprop(emp)

theorem fund_all : bigSep Finset.univ (fund (F := F)) = BI.own (ER (launchOf barCells xCells toks)) := by
  rw [bigSep_univ_at _ (0 : Dev nD), bigSep_congr (s := Finset.univ.erase (0 : Dev nD)) (Ψ := fun _ => (BI.emp : sProp 𝕄))
    (fun c hc => by unfold fund; rw [if_neg (Finset.ne_of_mem_erase hc)]; rfl), BI.bigSep_emp_const]
  unfold fund
  rw [if_pos rfl]
  exact BI.equiv_iff.mp sep_emp

/-- The launch's element of the ghost state: the pipeline's and the exchange's. -/
def u₀ : UU :=
  (initOf (Pipeline.cells (Pipeline.pin (pcfgs (F := F)) adm) cellOf_inj) (Pipeline.launchToks (Pipeline.pin (pcfgs (F := F)) adm) cellOf_inj),
    (launchOf barCells xCells toks, 1))

theorem own_parts (a b : UR sig nD τ) : (ownU ((a, (b, 1)) : UU) : sProp 𝕄) ⊢ iprop(BI.own (EP a) ∗ BI.own (ER b)) :=
  BI.own_op_elim (uEmb.toEmb.op_of_mem (Prod.mk_mem_op (URA.mem_op_one a) (URA.mem_one_op (b, (1 : Counters)))))

/-- What every device may consult. -/
def records (κ : GSem nD τ sig → ℕ) : sProp 𝕄 :=
  iprop((bigSep (barCells ∪ xCells) fun g => cellInv ER (talkRd (V₁ m)) (κ g) g) ∗ bigSep barCells fun g => reached ER g 0)

instance records_persistent (κ : GSem nD τ sig → ℕ) : BI.Persistent (records m κ) := by unfold records; infer_instance

theorem record_of (κ : GSem nD τ sig → ℕ) {g : GSem nD τ sig} (hg : g ∈ (barCells ∪ xCells : Finset (GSem nD τ sig))) :
    records m κ ⊢ cellInv ER (talkRd (V₁ m)) (κ g) g := by
  have h : (bigSep (barCells ∪ xCells) fun g => (cellInv ER (talkRd (V₁ m)) (κ g) g : sProp 𝕄)) ⊢ cellInv ER (talkRd (V₁ m)) (κ g) g := bigSep_elim hg
  unfold records
  iintro ⟨#H, -⟩
  iapply h
  iexact H

theorem reached_of (κ : GSem nD τ sig → ℕ) (c : Dev nD) : records m κ ⊢ (reached ER (barCell c) 0 : sProp 𝕄) := by
  have h : (bigSep barCells fun g => (reached ER g 0 : sProp 𝕄)) ⊢ reached ER (barCell c) 0 :=
    bigSep_elim (Finset.mem_map_of_mem barEmb (Finset.mem_univ c))
  unfold records
  iintro ⟨-, #H⟩
  iapply h
  iexact H

theorem names_of (κ : GSem nD τ sig → ℕ) (c : Dev nD) : records m κ ⊢ names (V₁ m) κ c := by
  have hx (c : Dev nD) (k : Fin 8) := record_of m κ (mem_x c k)
  unfold names
  iintro #H
  isplitr
  · isplitr; · iapply (record_of m κ (mem_bar (mate c))); iexact H
    isplitr; · iapply (hx (mate c) 4); iexact H
    isplitr; · iapply (hx (mate c) 5); iexact H
    isplitr; · iapply (hx (mate c) 6); iexact H
    iapply (hx (mate c) 7); iexact H
  isplitr; · iapply (record_of m κ (mem_bar c)); iexact H
  isplitr; · iapply (hx c 0); iexact H
  isplitr; · iapply (hx c 1); iexact H
  isplitr; · iapply (hx c 2); iexact H
  isplitr; · iapply (hx c 3); iexact H
  isplitr; · iapply (hx c 4); iexact H
  isplitr; · iapply (hx c 5); iexact H
  isplitr; · iapply (hx c 6); iexact H
  iapply (hx c 7); iexact H

/-- What is device `c`'s alone of the exchange, -/
def own' (c : Dev nD) : sProp 𝕄 := iprop(atPos ER (barCell c) 0 ∅ 0 ∗ keys c ∗ tasks c)

theorem ghost_of (κ : GSem nD τ sig → ℕ) (c : Dev nD) : iprop(records m κ ∗ own' c) ⊢ iprop(∃ K, ghost m K c) := by
  unfold own' ghost keys
  iintro ⟨#HR, Hat, Hk, Ht⟩
  iexists κ
  isplitr; · iapply (names_of m κ c); iexact HR
  isplitl [Hat]; · iexact Hat
  isplitr; · iapply (reached_of m κ (mate c)); iexact HR
  isplitl [Hk] <;> iassumption

/-- and of the rest. -/
def rest (c : Dev nD) : sProp 𝕄 :=
  iprop(StableHlo.held (c : Thread nD τ) bufs (V₀ m c) ∗ credits c ∗ owes (c : Thread nD τ) (O₀ c) ∅ ∗ ∃ r, prngReg c r)

abbrev T₀ (c : Dev nD) : sProp 𝕄 := iprop(StableHlo.held (c : Thread nD τ) bufs (V₀ m c) ∗ riding m c)
abbrev Tₙ (c : Dev nD) : sProp 𝕄 := iprop(StableHlo.held (c : Thread nD τ) bufs (V₂ m c) ∗ semVal (barCell c) 0)

theorem first_of (κ : GSem nD τ sig → ℕ) (c : Dev nD) : iprop(records m κ ∗ (own' c ∗ rest m c)) ⊢ T₀ m c := by
  unfold rest T₀ riding start
  iintro ⟨#HR, Hl, Hh, Hcr, HO, Hp⟩
  isplitl [Hh]; · iexact Hh
  isplitr [HO]
  · isplitl [Hl]
    · iapply (ghost_of m κ c)
      isplitr; · iexact HR
      iexact Hl
    isplitl [Hcr] <;> iassumption
  iexists ∅
  iexact HO

variable (ρ : Dev nD → PrngReg)

theorem launched_one (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ fund c)
    ⊢ (iprop(rest m c ∗ (semVal (barCell c) 0 ∗ fund c)) : sProp 𝕄) := by
  rw [unscoped_held, unscoped_sems]
  unfold rest
  iintro ⟨Hh, Hs, HO, Hcr, Hp, HG⟩
  isplitr [Hs HG]
  · isplitl [Hh]; · iexact Hh
    isplitl [Hcr]; · iapply (credits_launched c); iexact Hcr
    isplitl [HO]; · iexact HO
    iexists (ρ c); iexact Hp
  isplitl [Hs] <;> iassumption

theorem launched :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ fund c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  refine (sep_mono_left (bigSep_mono fun c _ => launched_one m ρ c)).trans ?_
  iintro ⟨H, -⟩
  ihave H' := bigSep_unpair $$ H
  icases H' with ⟨HB, H⟩
  ihave H' := bigSep_unpair $$ H
  icases H' with ⟨Hv, HG⟩
  ihave Hu := (Entails.of_eq (fund_all (F := F))) $$ HG
  imod (Rounds.fund_launch ER (talkRd (V₁ m)) cells_apart (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(own' c ∗ rest m c)) fun c _ => first_of m κ c)
  isplitr
  · unfold records
    isplitr; · iexact Hinv
    iexact Hr
  iapply bigSep_pair
  isplitr [HB]
  · unfold own'
    iapply bigSep_pair; isplitl [Hat]; · iapply hat $$ Hat
    iapply bigSep_pair; isplitl [Hopen]; · iapply (keys_dealt (F := F)) $$ Hopen
    iapply (toks_dealt (F := F)) $$ Htok
  iexact HB

/-! ## The run -/

theorem V₁_arg0 (c : Dev nD) : V₁ m c main_arg0 = m ((c : Thread nD τ).loc main_arg0) := Gen.V_main_arg0 m c
theorem V₁_arg1 (c : Dev nD) : V₁ m c main_arg1 = m ((c : Thread nD τ).loc main_arg1) := Gen.V_main_arg1 m c

set_option backward.isDefEq.respectTransparency.types false in
/-- Every run from zero counters ends, with the arguments as they were, the result holding `result`, and every counter
    zero again. -/
theorem run : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = result (V₁ m) c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (reg m) rfl c]; rfl)
    (by simp only [segs, Pipeline.Seg.pipes_host, Pipeline.Seg.pipes_region, Pipeline.Seg.pipes_nil]; decide)
    (O₀ := O₀) (hL := L_of_ne) (G := fund) (u₀ := u₀)
    (hu₀ := by
      unfold u₀
      iintro Hu
      ihave H := (own_parts _ _) $$ Hu
      icases H with ⟨HP, HX⟩
      imodintro
      isplitl [HP]; · iexact HP
      rw [fund_all]; iexact HX)
    (T₀ := T₀ m) (Tₙ := Tₙ m)
    (hch := ⟨fun c => .rfl, fun c => region_pre m c, fun c => region_post m c⟩)
    (hinit := launched m ρ)
    (QY := fun c s => (s.mem ((c : Thread nD τ).loc main_arg0) = V₂ m c main_arg0 ∧ s.mem ((c : Thread nD τ).loc main_arg1) = V₂ m c main_arg1
        ∧ s.mem ((c : Thread nD τ).loc main_v2) = V₂ m c main_v2)
      ∧ s.sem (barCell c) = 0)
    (hfin := fun c s' => by
      dsimp only [Tₙ]; rw [bufs_eq]
      iintro ⟨⟨⟨H0, H1, -, Ho⟩, Hb⟩, HSI⟩
      icombine HSI H0 gives %h0
      icombine HSI H1 gives %h1
      icombine HSI Ho gives %ho
      icombine HSI Hb gives %hb
      imodintro
      isplitr
      · ipureintro
        exact ⟨⟨Buf.eq_of_forall_mem_univ h0, Buf.eq_of_forall_mem_univ h1, Buf.eq_of_forall_mem_univ ho⟩, by simpa using hb⟩
      iexact HSI)
    (hQ := fun s h hs => ⟨fun c => by
        obtain ⟨⟨h0, h1, ho⟩, -⟩ := h c
        rw [V₂_of_ne m c main_arg0 (by decide), V₁_arg0] at h0
        rw [V₂_of_ne m c main_arg1 (by decide), V₁_arg1] at h1
        rw [V₂_out] at ho
        exact ⟨h0, h1, ho⟩,
      sem_eq_zero hs fun c sm hsm => by
        obtain rfl := unscoped_sem sm hsm
        exact (h c).2⟩)

end Cert.KernelIdeal.Talk

end
-- ==== Proof.RowNorm.lean ====
/-
  What the reference computes, entry by entry: the sum of the two parts, each row divided by its root mean square and scaled.
-/
module

public import proofs.«01_k».proof.Proof.Gen.ReferenceIdeal.Run
public import Idealize.ShloMosaic.Lib.Pointwise

@[expose] public section

noncomputable section

namespace Cert.RowNorm

open Idealize.ShloMosaic Idealize.ShloMosaic.Tactic
open Cert.ReferenceIdeal Cert.ReferenceIdeal.Gen

/-- The two constants are positive reals. -/
theorem divisor_pos : ∃ r : ℝ, 0 < r ∧ Ideal.ofBits .f32 0x44000000#32 = (r : EReal) := by
  refine ⟨512, by norm_num, ?_⟩
  simp [Ideal.ofBits, Ideal.ieee, -EReal.coe_mul]; norm_num

theorem offset_pos : ∃ r : ℝ, 0 < r ∧ Ideal.ofBits .f32 0x358637BD#32 = (r : EReal) := by
  refine ⟨_, ?_, by simp [Ideal.ofBits, Ideal.ieee, -EReal.coe_mul]; rfl⟩
  norm_num

theorem square_nonneg (a : EReal) : 0 ≤ a * a := by
  rcases le_total 0 a with h | h
  · exact mul_nonneg h h
  · have := EReal.neg_nonneg.mpr h
    rw [← neg_mul_neg]
    exact mul_nonneg this this

/-- What the root is taken of is positive, for any row of extended reals. -/
theorem mean_pos (s : Fin 512 → EReal) :
    0 < Ideal.div (∑ k, s k * s k) (Ideal.ofBits .f32 0x44000000#32) + Ideal.ofBits .f32 0x358637BD#32 := by
  obtain ⟨r, hr, e⟩ := divisor_pos
  obtain ⟨t, ht, e'⟩ := offset_pos
  have h0 : 0 ≤ ∑ k, s k * s k := Finset.sum_nonneg fun k _ => square_nonneg _
  have hne : (r : EReal) ≠ 0 := by exact_mod_cast hr.ne'
  rw [e, e', Ideal.div, if_neg hne]
  have h1 : (0 : EReal) ≤ (∑ k, s k * s k) * (r : EReal)⁻¹ :=
    mul_nonneg h0 (EReal.inv_nonneg_of_nonneg (by exact_mod_cast hr.le))
  have h2 : (0 : EReal) < t := by exact_mod_cast ht
  exact lt_of_lt_of_le h2 (le_add_of_nonneg_left h1)

/-- Above zero, dividing by the root is multiplying by its reciprocal. -/
theorem div_sqrt (a z : EReal) (h : 0 < z) : Ideal.div a (Ideal.sqrt z) = a * Ideal.rsqrt z := by
  induction z using EReal.rec with
  | bot => exact absurd h (by simp)
  | top => simp [Ideal.div]
  | coe r =>
    have hr : 0 < r := by exact_mod_cast h
    have hs : 0 < Real.sqrt r := Real.sqrt_pos.mpr hr
    have hne : ((Real.sqrt r : ℝ) : EReal) ≠ 0 := by exact_mod_cast hs.ne'
    simp [Ideal.div, not_lt.mpr hr.le, hr.ne', hne, EReal.coe_inv]

/-- One entry of a row `s` divided by its root mean square and scaled by `γ`. -/
def rowOut (s γ : Fin 512 → EReal) (j : Fin 512) : EReal :=
  s j * Ideal.rsqrt (Ideal.div (∑ k, s k * s k) (Ideal.ofBits .f32 0x44000000#32) + Ideal.ofBits .f32 0x358637BD#32) * γ j

/-- The whole result: of each row of the summed parts. -/
def whole (X : FVec Ideal S2x1024x512 .f32) (g : FVec Ideal S512 .f32) :
    FVec Ideal S1024x512 .bf16 :=
  fun i => rowOut (fun x => ∑ p : Fin 2, X (ix3 p (i 0) x)) (fun x => g (ix1 x)) (i 1)

/-- The reference's operations compute it. -/
theorem reference_eq (X : FVec Ideal S2x1024x512 .f32) (g : FVec Ideal S512 .f32) :
    truncf .bf16 (mulf (Host.divf (Host.reduceAdd X (constant S_ .f32 0x00000000#32) reducesTo_S2x1024x512_S1024x512_d0 h_S_) (broadcastInDim S1024x512 ![0, 1] bcast_S1024x1_S1024x512_0_1 (Host.sqrt (addf (Host.divf (broadcastInDim S1024x1 ![0] bcast_S1024_S1024x1_0 (Host.reduceAdd (mulf (Host.reduceAdd X (constant S_ .f32 0x00000000#32) reducesTo_S2x1024x512_S1024x512_d0 h_S_) (Host.reduceAdd X (constant S_ .f32 0x00000000#32) reducesTo_S2x1024x512_S1024x512_d0 h_S_)) (constant S_ .f32 0x00000000#32) reducesTo_S1024x512_S1024_d1 h_S_)) (broadcastInDim S1024x1 ![] bcast_S_S1024x1 (constant S_ .f32 0x44000000#32))) (broadcastInDim S1024x1 ![] bcast_S_S1024x1 (constant S_ .f32 0x358637BD#32)))))) (broadcastInDim S1024x512 ![0, 1] bcast_S1x512_S1024x512_0_1 (broadcastInDim S1x512 ![1] bcast_S512_S1x512_1 g))) bitsLt_bf16_f32
      = whole X g := by
  funext i
  idx_vars i
  unfold whole rowOut
  rw [← div_sqrt _ _ (mean_pos _)]
  pointwise

end Cert.RowNorm

end
-- ==== Proof.KernelIdealValue.lean ====
/-
  The kernel's result over the extended reals: each device's block of what the reference computes.
-/
module

public import proofs.«01_k».proof.Proof.KernelIdealLaunch
public import proofs.«01_k».proof.Proof.RowNorm
public import Idealize.ShloMosaic.Lib.Layout
public import Idealize.ShloMosaic.Lib.Pointwise

@[expose] public section

noncomputable section

namespace Cert.KernelIdeal.Talk

open Cert.KernelIdeal Cert.KernelIdeal.Gen Cert.RowNorm
open Idealize.ShloMosaic
open Idealize.ShloMosaic.TcCoe Idealize.ShloMosaic.Tactic

/-- The other device of a pair has the other parity. -/
theorem mate_parity : ∀ c : Dev nD, (mate c).val % 2 = 1 - c.val % 2 := by decide

/-- Which part a device holds of a dimension that is not cut, and of one cut along the second axis of the mesh. -/
theorem uncut (c : Dev nD) : Layout.meshLin [2, 2] c.val [] = 0 := rfl
theorem cut_once : ∀ c : Dev nD, Layout.meshLin [2, 2] c.val [1] = c.val % 2 := by decide

/-- One entry of a block. -/
theorem normed_at (v : Vec Ideal S128x512 .f32) (w : Vec Ideal S128x512 .bf16) (g : Vec Ideal S1x512 .f32) (a : Fin 128) (b : Fin 512) :
    normed v w g (ix2 a b) = rowOut (fun x => v (ix2 a x) + w (ix2 a x)) (fun x => g (ix2 0 x)) b := by
  unfold normed rowOut
  pointwise

/-- A leading dimension of one element dropped, at an entry. -/
theorem drop_512 (x : Vec Ideal S1x512x512 .f32) (h : S1x512x512.ShapeCasts S512x512) (a b : Fin 512) :
    shapeCast S512x512 x h (ix2 a b) = x (ix3 0 a b) := by pointwise

theorem drop_128 (x : Vec Ideal S1x128x512 .f32) (h : S1x128x512.ShapeCasts S128x512) (a : Fin 128) (b : Fin 512) :
    shapeCast S128x512 x h (ix2 a b) = x (ix3 0 a b) := by pointwise

variable (V : Dev nD → Valuation τ sig (Elt Ideal))

/-- The part of the input device `c` holds. -/
def held (c : Dev nD) : FVec Ideal S1x1024x512 .f32 := V c main_arg0

/-- The rows kept: those of the device's own half. -/
theorem kept_at (c : Dev nD) (a b : Fin 512) :
    keptRows V c (ix2 a b) = held V c (ix3 0 ⟨512 * (c.val % 2) + a.val, by omega⟩ b) := by
  refine (drop_512 (xM.view.readAt (Elt Ideal) (Rect.unit (s := S1x1024x512) (k0_off2 c) S1x512x512.size (k0_off2_inb c)).toLoadRect (V c main_arg0)) (by decide) a b).trans ?_
  refine congrArg (V c main_arg0) (funext fun i => Fin.ext ?_)
  show k0_off2 c i + 1 * _ = _
  refine (congrArg (· + _) (congrFun (k0_off2_eq c) i)).trans ?_
  fin_cases i <;> simp

/-- The rows received: the mate's of the same half. -/
theorem src_at (c : Dev nD) (k : Fin 4) (a : Fin 128) (b : Fin 512) :
    sent V (mate c) k (ix2 a b) = held V (mate c) (ix3 0 ⟨512 * (c.val % 2) + (128 * k.val + a.val), by omega⟩ b) := by
  have h (k : Fin 4) : shapeCast S128x512 (xM.view.readAt (Elt Ideal) (Rect.unit (s := S1x1024x512) (k0_off1 (mate c) (BitVec.ofNat 32 (128 * k.val))) S1x128x512.size (k0_off1_inb (mate c) k)).toLoadRect (V (mate c) main_arg0)) shapeCasts_S1x128x512_S128x512 (ix2 a b)
      = held V (mate c) (ix3 0 ⟨512 * (c.val % 2) + (128 * k.val + a.val), by omega⟩ b) := by
    refine (drop_128 _ _ a b).trans ?_
    refine congrArg (V (mate c) main_arg0) (funext fun i => Fin.ext ?_)
    show k0_off1 (mate c) (BitVec.ofNat 32 (128 * k.val)) i + 1 * _ = _
    have hm := mate_parity c
    refine (congrArg (· + _) (congrFun (k0_off1_eq (mate c) k) i)).trans ?_
    fin_cases i <;> simp
    omega
  match k with
  | 0 => exact h 0
  | 1 => exact h 1
  | 2 => exact h 2
  | 3 => exact h 3

/-- The scale, of which the launch only adds a leading dimension. -/
theorem gamma_at (m : (ℓ : Loc nD τ sig) → Buf (Elt Ideal) ℓ) (c : Dev nD) (b : Fin 512) :
    gamma (V₁ m) c (ix2 0 b) = m ((c : Thread nD τ).loc main_arg1) (ix1 b) := by
  have h : V₁ m c main_v1 = shapeCast S1x512 (m ((c : Thread nD τ).loc main_arg1)) shapeCasts_S512_S1x512 := by
    unfold V₁ hostOps0
    after_results
    rfl
  refine (congrFun h (ix2 0 b)).trans ?_
  pointwise

/-- One entry of block `k`: its row is the sum of the two devices' rows of that place. -/
theorem block_at (c : Dev nD) (k : Fin 4) (a : Fin 128) (b : Fin 512) :
    blockOf V c k (ix2 a b)
      = rowOut (fun x => held V c (ix3 0 ⟨512 * (c.val % 2) + (128 * k.val + a.val), by omega⟩ x)
          + held V (mate c) (ix3 0 ⟨512 * (c.val % 2) + (128 * k.val + a.val), by omega⟩ x)) (fun x => gamma V c (ix2 0 x)) b := by
  have h (k : Fin 4) (o : Fin 2 → ℕ) (hin) (ho : o = ![128 * k.val, 0]) :
      normed (fun j => keptRows V c ((Rect.unit (s := S512x512) o S128x512.size hin).emb j)) (sent V (mate c) k) (gamma V c) (ix2 a b)
      = rowOut (fun x => held V c (ix3 0 ⟨512 * (c.val % 2) + (128 * k.val + a.val), by omega⟩ x)
          + held V (mate c) (ix3 0 ⟨512 * (c.val % 2) + (128 * k.val + a.val), by omega⟩ x)) (fun x => gamma V c (ix2 0 x)) b := by
    rw [normed_at]
    refine congrArg (fun s => rowOut s _ b) (funext fun x => ?_)
    refine congrArg₂ (· + ·) ?_ (src_at V c k a x)
    refine Eq.trans (congrArg (keptRows V c) ?_) (kept_at V c ⟨128 * k.val + a.val, by omega⟩ x)
    subst ho
    funext i
    apply Fin.ext
    show (![128 * k.val, 0] : Fin 2 → ℕ) i + 1 * _ = _
    fin_cases i <;> simp
  match k with
  | 0 => exact h 0 _ _ rfl
  | 1 => exact h 1 _ _ rfl
  | 2 => exact h 2 _ _ rfl
  | 3 => exact h 3 _ _ rfl

/-- The result is the device's block of the reference's: the two parts are added in one order or the other. -/
theorem result_at (m : (ℓ : Loc nD τ sig) → Buf (Elt Ideal) ℓ) (X : FVec Ideal Cert.ReferenceIdeal.S2x1024x512 .f32) (g : FVec Ideal Cert.ReferenceIdeal.S512 .f32)
    (hX : ∀ c : Dev nD, m ((c : Thread nD τ).loc main_arg0) = Layout.blockN ⟨3, ![1, 1024, 512]⟩ ⟨3, ![2, 1024, 512]⟩ (Layout.meshBlock [2, 2] ![[1], [], []] c) X)
    (hg : ∀ c : Dev nD, m ((c : Thread nD τ).loc main_arg1) = g) (c : Dev nD) :
    result (V₁ m) c = Layout.blockN ⟨2, ![512, 512]⟩ ⟨2, ![1024, 512]⟩ (Layout.meshBlock [2, 2] ![[1], []] c) (whole X g) := by
  have part (d : Dev nD) (R : Fin 1024) (x : Fin 512) : held (V₁ m) d (ix3 0 R x) = X (ix3 ⟨d.val % 2, by omega⟩ R x) := by
    unfold held
    rw [V₁_arg0, hX]
    refine congrArg X (funext fun i => Fin.ext ?_)
    rw [Layout.TilesN.idx_val]
    have hn := uncut d
    have h1 := cut_once d
    fin_cases i <;> simp [hn, h1]
  funext i
  idx_vars i
  refine (block_at (V₁ m) c ⟨i0.val / 128, by omega⟩ ⟨i0.val % 128, Nat.mod_lt _ (by decide)⟩ i1).trans ?_
  have hn := uncut c
  have h1 := cut_once c
  have hi : (Layout.blockN ⟨2, ![512, 512]⟩ ⟨2, ![1024, 512]⟩ (Layout.meshBlock [2, 2] ![[1], []] c) (whole X g) :) (ix2 i0 i1)
      = whole X g (ix2 ⟨512 * (c.val % 2) + i0.val, by omega⟩ i1) := by
    refine congrArg (whole X g) (funext fun i => Fin.ext ?_)
    rw [Layout.TilesN.idx_val]
    fin_cases i <;> simp [hn, h1]
    omega
  rw [hi]
  refine congrArg₂ (fun s t => rowOut s t i1) (funext fun x => ?_) (funext fun x => (gamma_at m c x).trans (congrFun (hg c) (ix1 x)))
  have hR : (⟨512 * (c.val % 2) + (128 * (i0.val / 128) + i0.val % 128), by omega⟩ : Fin 1024) = ⟨512 * (c.val % 2) + i0.val, by omega⟩ := by
    apply Fin.ext
    show 512 * (c.val % 2) + (128 * (i0.val / 128) + i0.val % 128) = 512 * (c.val % 2) + i0.val
    omega
  show held (V₁ m) c (ix3 0 (⟨512 * (c.val % 2) + (128 * (i0.val / 128) + i0.val % 128), by omega⟩ : Fin 1024) x)
    + held (V₁ m) (mate c) (ix3 0 (⟨512 * (c.val % 2) + (128 * (i0.val / 128) + i0.val % 128), by omega⟩ : Fin 1024) x) = _
  rw [hR, part, part, Fin.sum_univ_two]
  have hm := mate_parity c
  rcases Nat.mod_two_eq_zero_or_one c.val with h | h
  · simp only [hm, h]; rfl
  · simp only [hm, h]; exact add_comm _ _

end Cert.KernelIdeal.Talk

end
-- ==== Proof.lean ====
/-
  The proof of the certificate's claims: every run of the kernel on the four devices ends with its arguments unchanged and
  every counter at zero, at the float values of the machine and over the extended reals; the same of the reference; and over the extended reals each device's
  result is its block of the reference's.
-/
module

public import proofs.«01_k».proof.Defs
public import proofs.«01_k».proof.Proof.KernelLaunch
public import proofs.«01_k».proof.Proof.KernelIdealLaunch
public import proofs.«01_k».proof.Proof.KernelIdealValue
public import proofs.«01_k».proof.Proof.Gen.ReferenceIdeal.Run
public import Idealize.ShloMosaic.Lib.Quiescent

@[expose] public section

noncomputable section

namespace Cert.Proof

open Idealize.ShloMosaic Idealize.SL.Sem

theorem kernel_frame : quiescent_Kernel := fun m g _ =>
  (θ_run Kernel.defs _ _).mono (fun _ h => ⟨fun c => ⟨(h.1 c).1, (h.1 c).2.1⟩, h.2⟩) (Kernel.Talk.run (F := Bits) m g)

theorem ideal_frame : quiescent_KernelIdeal := fun m g _ =>
  (θ_run KernelIdeal.defs _ _).mono (fun _ h => ⟨fun c => ⟨(h.1 c).1, (h.1 c).2.1⟩, h.2⟩) (KernelIdeal.Talk.run (F := Ideal) m g)

theorem reference_frame : quiescent_ReferenceIdeal := fun m g _ =>
  (θ_run ReferenceIdeal.defs _ _).mono (fun r h => ⟨fun c => (h c).2, sem_eq_zero_of_no_sems (by decide) r.2⟩)
    (ReferenceIdeal.Value.run (F := Ideal) m g)

theorem algebraic : algebraic_KernelIdeal_ReferenceIdeal := fun m g m' g' _ h =>
  ⟨RowNorm.whole _ _,
    (θ_run KernelIdeal.defs _ _).mono (fun _ hr c =>
      ⟨(hr.1 c).2.2.trans (KernelIdeal.Talk.result_at m _ _ (fun c => (h c).1) (fun c => (h c).2) c), (hr.1 c).1, (hr.1 c).2.1⟩)
      (KernelIdeal.Talk.run (F := Ideal) m g),
    (θ_run ReferenceIdeal.defs _ _).mono (fun _ hr => ⟨(hr 0).1.trans (RowNorm.reference_eq _ _), (hr 0).2⟩)
      (ReferenceIdeal.Value.run (F := Ideal) m' g')⟩

theorem claim : Cert.Claim :=
  ⟨Cert.Kernel.Gen.facts, Cert.KernelIdeal.Gen.facts, Cert.ReferenceIdeal.Gen.facts, kernel_frame, ideal_frame, reference_frame, trivial, algebraic⟩

end Cert.Proof

end
